-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85_0) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v85_1) = v2 c
          ∧ r.2.mem ((c.tc : Thread Cert.ReferenceIdeal.nD Cert.ReferenceIdeal.τ).loc Cert.ReferenceIdeal.main_v84) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S17x1024x8192 : Shape := ⟨3, ![17, 1024, 8192]⟩
abbrev S17x1024x4096 : Shape := ⟨3, ![17, 1024, 4096]⟩
abbrev S17408x8192 : Shape := ⟨2, ![17408, 8192]⟩
abbrev S17408x4096 : Shape := ⟨2, ![17408, 4096]⟩
abbrev S17408x64 : Shape := ⟨2, ![17408, 64]⟩
abbrev S8192x17408 : Shape := ⟨2, ![8192, 17408]⟩
abbrev S136x1x8192 : Shape := ⟨3, ![136, 1, 8192]⟩
abbrev S128x8192 : Shape := ⟨2, ![128, 8192]⟩
abbrev S128x4096 : Shape := ⟨2, ![128, 4096]⟩
abbrev S128x64 : Shape := ⟨2, ![128, 64]⟩
abbrev S8192x128 : Shape := ⟨2, ![8192, 128]⟩
abbrev S1x1x8192 : Shape := ⟨3, ![1, 1, 8192]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S1x1x128 : Shape := ⟨3, ![1, 1, 128]⟩

abbrev nBuf : Space → Nat
  | .hbm => 8
  | .vmem => 12
  | .smem => 0
  | _ => 0

abbrev bufTy : (tb : Table) → Fin (tcTables nBuf tb) → BufTy
  | .hbm, ⟨0, _⟩ => ⟨S17x1024x8192, .bf16⟩
  | .hbm, ⟨1, _⟩ => ⟨S17x1024x4096, .bf16⟩
  | .hbm, ⟨2, _⟩ => ⟨S17408x8192, .bf16⟩
  | .hbm, ⟨3, _⟩ => ⟨S17408x4096, .bf16⟩
  | .hbm, ⟨4, _⟩ => ⟨S17408x8192, .fp8e4m3⟩
  | .hbm, ⟨5, _⟩ => ⟨S17408x64, .f32⟩
  | .hbm, ⟨6, _⟩ => ⟨S8192x17408, .fp8e4m3⟩
  | .hbm, ⟨7, _⟩ => ⟨S136x1x8192, .f32⟩
  | .local _ .vmem, ⟨0, _⟩ => ⟨S128x8192, .bf16⟩
  | .local _ .vmem, ⟨1, _⟩ => ⟨S128x8192, .bf16⟩
  | .local _ .vmem, ⟨2, _⟩ => ⟨S128x4096, .bf16⟩
  | .local _ .vmem, ⟨3, _⟩ => ⟨S128x4096, .bf16⟩
  | .local _ .vmem, ⟨4, _⟩ => ⟨S128x8192, .fp8e4m3⟩
  | .local _ .vmem, ⟨5, _⟩ => ⟨S128x8192, .fp8e4m3⟩
  | .local _ .vmem, ⟨6, _⟩ => ⟨S128x64, .f32⟩
  | .local _ .vmem, ⟨7, _⟩ => ⟨S128x64, .f32⟩
  | .local _ .vmem, ⟨8, _⟩ => ⟨S8192x128, .fp8e4m3⟩
  | .local _ .vmem, ⟨9, _⟩ => ⟨S8192x128, .fp8e4m3⟩
  | .local _ .vmem, ⟨10, _⟩ => ⟨S1x1x8192, .f32⟩
  | .local _ .vmem, ⟨11, _⟩ => ⟨S1x1x8192, .f32⟩
  | _, _ => ⟨S17x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev main_v2_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![136], ![false]⟩

@[reducible] def k0_t1_loop : Scf.Loop 32 :=
  let c0_i32 : BitVec 32 := 0#32
  let c32_i32 : BitVec 32 := 32#32
  let v2 : BitVec 32 := Scalar.addi c0_i32 c32_i32
  let c1_i32 : BitVec 32 := 1#32
  ⟨c0_i32, v2, c1_i32⟩
def k0_mult1 (k0_t1 : Fin k0_t1_loop.trips) : BitVec 32 :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  v5
def k0_off1 (k0_t1 : Fin k0_t1_loop.trips) : Fin 2 → Nat :=
  let c0_2 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v7 : Index := Scalar.indexCast v6
  ![0, v7.toNat]
def k0_off2 (k0_t1 : Fin k0_t1_loop.trips) (c4096_i32 : BitVec 32) : Fin 2 → Nat :=
  let c0_3 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v11 : BitVec 32 := Scalar.addi v6 c4096_i32
  let v12 : Index := Scalar.indexCast v11
  ![0, v12.toNat]
def k0_off3 (k0_t1 : Fin k0_t1_loop.trips) : Fin 2 → Nat :=
  let c0_4 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v16 : Index := Scalar.indexCast v6
  ![0, v16.toNat]
def k0_off4 (k0_t1 : Fin k0_t1_loop.trips) (c0_i32_73 : BitVec 32) : Fin 2 → Nat :=
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v243 : BitVec 32 := Scalar.addi v6 c0_i32_73
  let v244 : Index := Scalar.indexCast v243
  let c0_74 : Index := 0#32
  ![v244.toNat, 0]
def k0_off5 (k0_t1 : Fin k0_t1_loop.trips) (c0_i32_75 : BitVec 32) : Fin 3 → Nat :=
  let c0_76 : Index := 0#32
  let c0_77 : Index := 0#32
  let c0_i32 : BitVec 32 := 0#32
  let c1_i32 : BitVec 32 := 1#32
  let arg7 : BitVec 32 := Scf.iv c0_i32 c1_i32 k0_t1
  let c128_i32 : BitVec 32 := 128#32
  let v5 : BitVec 32 := Scalar.muli arg7 c128_i32
  let v6 : BitVec 32 := v5
  let v246 : BitVec 32 := Scalar.addi v6 c0_i32_75
  let v247 : Index := Scalar.indexCast v246
  ![0, 0, v247.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x8192 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S17x1024x8192 : Shape := ⟨3, ![17, 1024, 8192]⟩
abbrev S17x1024x4096 : Shape := ⟨3, ![17, 1024, 4096]⟩
abbrev S17408x64x128 : Shape := ⟨3, ![17408, 64, 128]⟩
abbrev S17408x32x128 : Shape := ⟨3, ![17408, 32, 128]⟩
abbrev S_ : Shape := ⟨0, ![]⟩
abbrev S17408x64 : Shape := ⟨2, ![17408, 64]⟩
abbrev S17408x64x1 : Shape := ⟨3, ![17408, 64, 1]⟩
abbrev S17408x8192 : Shape := ⟨2, ![17408, 8192]⟩
abbrev S136x128x64x128 : Shape := ⟨4, ![136, 128, 64, 128]⟩
abbrev S136x64x128 : Shape := ⟨3, ![136, 64, 128]⟩
abbrev S136x1x64x128 : Shape := ⟨4, ![136, 1, 64, 128]⟩
abbrev S64x128x17408 : Shape := ⟨3, ![64, 128, 17408]⟩
abbrev S8192x17408 : Shape := ⟨2, ![8192, 17408]⟩
abbrev S136x1x8192 : Shape := ⟨3, ![136, 1, 8192]⟩

abbrev nBuf : Space → Nat
  | .hbm => 129
  | .vmem => 4
  | .smem => 0
  | _ => 0

abbrev hbmTy0_0 (i : Nat) : BufTy := match i % 128 with
  | 0 => ⟨S17x1024x8192, .bf16⟩
  | 1 => ⟨S17x1024x4096, .bf16⟩
  | 2 => ⟨S17408x64x128, .bf16⟩
  | 3 => ⟨S17408x32x128, .bf16⟩
  | 4 => ⟨S17408x32x128, .f32⟩
  | 5 => ⟨S17408x32x128, .bf16⟩
  | 6 => ⟨S17408x32x128, .f32⟩
  | 7 => ⟨S17408x32x128, .bf16⟩
  | 8 => ⟨S17408x32x128, .f32⟩
  | 9 => ⟨S17408x32x128, .f32⟩
  | 10 => ⟨S17408x32x128, .f32⟩
  | 11 => ⟨S_, .f32⟩
  | 12 => ⟨S17408x32x128, .f32⟩
  | 13 => ⟨S17408x32x128, .f32⟩
  | 14 => ⟨S_, .f32⟩
  | 15 => ⟨S17408x32x128, .f32⟩
  | 16 => ⟨S17408x32x128, .f32⟩
  | 17 => ⟨S17408x32x128, .f32⟩
  | 18 => ⟨S17408x32x128, .f32⟩
  | 19 => ⟨S_, .f32⟩
  | 20 => ⟨S17408x32x128, .f32⟩
  | 21 => ⟨S17408x32x128, .f32⟩
  | 22 => ⟨S17408x32x128, .f32⟩
  | 23 => ⟨S_, .f32⟩
  | 24 => ⟨S17408x32x128, .f32⟩
  | 25 => ⟨S17408x32x128, .f32⟩
  | 26 => ⟨S17408x32x128, .f32⟩
  | 27 => ⟨S17408x32x128, .f32⟩
  | 28 => ⟨S17408x32x128, .f32⟩
  | 29 => ⟨S17408x64x128, .f32⟩
  | 30 => ⟨S17408x64x128, .f32⟩
  | 31 => ⟨S_, .f32⟩
  | 32 => ⟨S17408x64, .f32⟩
  | 33 => ⟨S17408x64x1, .f32⟩
  | 34 => ⟨S_, .f32⟩
  | 35 => ⟨S17408x64x1, .f32⟩
  | 36 => ⟨S17408x64x1, .f32⟩
  | 37 => ⟨S17408x64x1, .f32⟩
  | 38 => ⟨S_, .f32⟩
  | 39 => ⟨S_, .f32⟩
  | 40 => ⟨S_, .f32⟩
  | 41 => ⟨S17408x64x1, .f32⟩
  | 42 => ⟨S17408x64x1, .f32⟩
  | 43 => ⟨S17408x64x1, .f32⟩
  | 44 => ⟨S_, .f32⟩
  | 45 => ⟨S17408x64x1, .f32⟩
  | 46 => ⟨S17408x64x1, .f32⟩
  | 47 => ⟨S_, .f32⟩
  | 48 => ⟨S17408x64x1, .f32⟩
  | 49 => ⟨S17408x64x1, .i1⟩
  | 50 => ⟨S_, .f32⟩
  | 51 => ⟨S17408x64x1, .f32⟩
  | 52 => ⟨S17408x64x1, .i1⟩
  | 53 => ⟨S17408x64x1, .i1⟩
  | 54 => ⟨S_, .f32⟩
  | 55 => ⟨S_, .f32⟩
  | 56 => ⟨S17408x64x1, .f32⟩
  | 57 => ⟨S17408x64x1, .f32⟩
  | 58 => ⟨S_, .f32⟩
  | 59 => ⟨S17408x64x1, .f32⟩
  | 60 => ⟨S17408x64x1, .f32⟩
  | 61 => ⟨S17408x64x1, .f32⟩
  | 62 => ⟨S_, .f32⟩
  | 63 => ⟨S17408x64x1, .f32⟩
  | 64 => ⟨S17408x64x1, .f32⟩
  | 65 => ⟨S17408x64x128, .f32⟩
  | 66 => ⟨S17408x64x128, .f32⟩
  | 67 => ⟨S_, .f32⟩
  | 68 => ⟨S_, .f32⟩
  | 69 => ⟨S_, .f32⟩
  | 70 => ⟨S17408x64x128, .f32⟩
  | 71 => ⟨S17408x64x128, .f32⟩
  | 72 => ⟨S_, .f32⟩
  | 73 => ⟨S17408x64x128, .f32⟩
  | 74 => ⟨S17408x64x128, .f32⟩
  | 75 => ⟨S17408x8192, .f32⟩
  | 76 => ⟨S17408x64, .f32⟩
  | 77 => ⟨S136x128x64x128, .f32⟩
  | 78 => ⟨S136x128x64x128, .f32⟩
  | 79 => ⟨S_, .f32⟩
  | 80 => ⟨S136x64x128, .f32⟩
  | 81 => ⟨S136x1x64x128, .f32⟩
  | 82 => ⟨S_, .f32⟩
  | 83 => ⟨S136x1x64x128, .f32⟩
  | 84 => ⟨S136x1x64x128, .f32⟩
  | 85 => ⟨S136x1x64x128, .f32⟩
  | 86 => ⟨S_, .f32⟩
  | 87 => ⟨S_, .f32⟩
  | 88 => ⟨S_, .f32⟩
  | 89 => ⟨S136x1x64x128, .f32⟩
  | 90 => ⟨S136x1x64x128, .f32⟩
  | 91 => ⟨S136x1x64x128, .f32⟩
  | 92 => ⟨S_, .f32⟩
  | 93 => ⟨S136x1x64x128, .f32⟩
  | 94 => ⟨S136x1x64x128, .f32⟩
  | 95 => ⟨S_, .f32⟩
  | 96 => ⟨S136x1x64x128, .f32⟩
  | 97 => ⟨S136x1x64x128, .i1⟩
  | 98 => ⟨S_, .f32⟩
  | 99 => ⟨S136x1x64x128, .f32⟩
  | 100 => ⟨S136x1x64x128, .i1⟩
  | 101 => ⟨S136x1x64x128, .i1⟩
  | 102 => ⟨S_, .f32⟩
  | 103 => ⟨S_, .f32⟩
  | 104 => ⟨S136x1x64x128, .f32⟩
  | 105 => ⟨S136x1x64x128, .f32⟩
  | 106 => ⟨S_, .f32⟩
  | 107 => ⟨S136x1x64x128, .f32⟩
  | 108 => ⟨S136x1x64x128, .f32⟩
  | 109 => ⟨S136x1x64x128, .f32⟩
  | 110 => ⟨S_, .f32⟩
  | 111 => ⟨S136x1x64x128, .f32⟩
  | 112 => ⟨S136x1x64x128, .f32⟩
  | 113 => ⟨S136x128x64x128, .f32⟩
  | 114 => ⟨S136x128x64x128, .f32⟩
  | 115 => ⟨S_, .f32⟩
  | 116 => ⟨S_, .f32⟩
  | 117 => ⟨S_, .f32⟩
  | 118 => ⟨S136x128x64x128, .f32⟩
  | 119 => ⟨S136x128x64x128, .f32⟩
  | 120 => ⟨S_, .f32⟩
  | 121 => ⟨S136x128x64x128, .f32⟩
  | 122 => ⟨S136x128x64x128, .f32⟩
  | 123 => ⟨S17408x64x128, .f32⟩
  | 124 => ⟨S64x128x17408, .f32⟩
  | 125 => ⟨S8192x17408, .f32⟩
  | 126 => ⟨S136x1x8192, .f32⟩
  | 127 => ⟨S17408x8192, .fp8e4m3⟩
  | _ => ⟨S17x1024x8192, .bf16⟩

abbrev hbmTy0_1 (i : Nat) : BufTy := match i % 128 with
  | 0 => ⟨S8192x17408, .fp8e4m3⟩
  | _ => ⟨S17x1024x8192, .bf16⟩

abbrev hbmTy (i : Nat) : BufTy := match i / 128 with
  | 0 => hbmTy0_0 i
  | 1 => hbmTy0_1 i
  | _ => ⟨S17x1024x8192, .bf16⟩

abbrev bufTy : (tb : Table) → Fin (tcTables nBuf tb) → BufTy
  | .hbm, ⟨i, _⟩ => hbmTy i
  | .local _ .vmem, ⟨0, _⟩ => ⟨S17408x8192, .f32⟩
  | .local _ .vmem, ⟨1, _⟩ => ⟨S8192x17408, .f32⟩
  | .local _ .vmem, ⟨2, _⟩ => ⟨S17408x8192, .fp8e4m3⟩
  | .local _ .vmem, ⟨3, _⟩ => ⟨S8192x17408, .fp8e4m3⟩
  | _, _ => ⟨S17x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_1 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_3 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_6 : Ref sig .tc := ⟨.hbm, 44, rfl⟩
abbrev main_v35 : Ref sig .tc := ⟨.hbm, 45, rfl⟩
abbrev main_v36 : Ref sig .tc := ⟨.hbm, 46, rfl⟩
abbrev main_cst_7 : Ref sig .tc := ⟨.hbm, 47, rfl⟩
abbrev main_v37 : Ref sig .tc := ⟨.hbm, 48, rfl⟩
abbrev main_v38 : Ref sig .tc := ⟨.hbm, 49, rfl⟩
abbrev main_cst_8 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_9 : Ref sig .tc := ⟨.hbm, 54, rfl⟩
abbrev main_call0_v0 : Ref sig .tc := ⟨.hbm, 55, rfl⟩
abbrev main_call0_v1 : Ref sig .tc := ⟨.hbm, 56, rfl⟩
abbrev main_v42 : Ref sig .tc := ⟨.hbm, 57, rfl⟩
abbrev main_cst_10 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_11 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_cst_12 : Ref sig .tc := ⟨.hbm, 67, rfl⟩
abbrev main_cst_13 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_14 : Ref sig .tc := ⟨.hbm, 79, rfl⟩
abbrev main_v55 : Ref sig .tc := ⟨.hbm, 80, rfl⟩
abbrev main_v56 : Ref sig .tc := ⟨.hbm, 81, rfl⟩
abbrev main_cst_15 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_16 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_17 : Ref sig .tc := ⟨.hbm, 92, rfl⟩
abbrev main_v65 : Ref sig .tc := ⟨.hbm, 93, rfl⟩
abbrev main_v66 : Ref sig .tc := ⟨.hbm, 94, rfl⟩
abbrev main_cst_18 : Ref sig .tc := ⟨.hbm, 95, rfl⟩
abbrev main_v67 : Ref sig .tc := ⟨.hbm, 96, rfl⟩
abbrev main_v68 : Ref sig .tc := ⟨.hbm, 97, rfl⟩
abbrev main_cst_19 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_20 : Ref sig .tc := ⟨.hbm, 102, rfl⟩
abbrev main_call2_v0 : Ref sig .tc := ⟨.hbm, 103, rfl⟩
abbrev main_call2_v1 : Ref sig .tc := ⟨.hbm, 104, rfl⟩
abbrev main_v72 : Ref sig .tc := ⟨.hbm, 105, rfl⟩
abbrev main_cst_21 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_22 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_23 : Ref sig .tc := ⟨.hbm, 115, rfl⟩
abbrev main_cst_24 : Ref sig .tc := ⟨.hbm, 116, rfl⟩
abbrev main_call3_v0 : Ref sig .tc := ⟨.hbm, 117, rfl⟩
abbrev main_call3_v1 : Ref sig .tc := ⟨.hbm, 118, rfl⟩
abbrev main_call3_v2 : Ref sig .tc := ⟨.hbm, 119, rfl⟩
abbrev main_call3_v3 : Ref sig .tc := ⟨.hbm, 120, rfl⟩
abbrev main_call3_v4 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85_0 : Ref sig .tc := ⟨.hbm, 127, rfl⟩
abbrev main_v85_1 : Ref sig .tc := ⟨.hbm, 128, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S17408x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x17408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S17408x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x17408 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Quant.lean ====
module

public import Idealize.ShloMosaic.Lib.Pipeline.ValueKit
public import Idealize.ShloMosaic.Lib.Pointwise

@[expose] public section

/-!
# One scale: the kernel's exponent search and the reference's logarithm give the same power of two

For one number `t` (the largest magnitude of a group, over 448), the kernel finds the exponent field of
`t` bit by bit and builds `scale` and `1/scale` from it by integer arithmetic on bit patterns; the
reference takes `floor (log t / log 2) + 1` and powers of two. Here both are functions of an extended
real, and `scale_eq` and `inv_eq` say that they agree for every `t`.
-/

namespace Cert.Quant

open Idealize.ShloMosaic

noncomputable section

/-! ## The kernel's scale -/

/-- The number whose f32 pattern is the word `f` shifted to the exponent's place. -/
def atField (f : BitVec 32) : EReal := Ideal.ofBits .f32 (IntOp.shli .vector f 23#32)

/-- One step of the search: the field `f` with the bit `b` added if `t` reaches that power of two. -/
def raise (t : EReal) (f b : BitVec 32) : BitVec 32 :=
  Scalar.select (Ideal.cmp .oge t (atField (IntOp.minsi (IntOp.addi f b) 253#32))) (IntOp.addi f b) f

/-- The field found after the eight bits. -/
def field (t : EReal) : BitVec 32 :=
  raise t (raise t (raise t (raise t (raise t (raise t (raise t (raise t 0#32 128#32) 64#32) 32#32)
    16#32) 8#32) 4#32) 2#32) 1#32

/-- The fields 0 and 255 are sent to 126, for which the scale is one. -/
def settle (f : BitVec 32) : BitVec 32 :=
  Scalar.select (IntOp.ori (IntOp.cmpi .eq f 0#32) (IntOp.cmpi .eq f 255#32)) 126#32 f

/-- The kernel's scale of `t`. -/
def scale (t : EReal) : EReal := atField (IntOp.addi (settle (field t)) 1#32)

/-- The kernel's reciprocal of the scale of `t`. -/
def inv (t : EReal) : EReal := atField (IntOp.subi 253#32 (settle (field t)))

/-! ## The reference's scale -/

/-- The reference's exponent: `floor (log t / log 2) + 1` in the range of the normal numbers, else 0. -/
def refExp (t : EReal) : EReal :=
  Scalar.select
    (IntOp.andi (Ideal.cmp .oge t (Ideal.ofBits .f32 0x00800000#32))
      (Ideal.cmp .olt t (Ideal.ofBits .f32 0x7E800000#32)))
    (Ideal.liftRound Int.floor (Ideal.div (Ideal.log t) (Ideal.log (Ideal.ofBits .f32 0x40000000#32)))
      + Ideal.ofBits .f32 0x3F800000#32)
    (Ideal.ofBits .f32 0x00000000#32)

/-- The reference's scale of `t`. -/
def refScale (t : EReal) : EReal := Ideal.pow (Ideal.ofBits .f32 0x40000000#32) (refExp t)

/-- The reference's reciprocal of the scale of `t`. -/
def refInv (t : EReal) : EReal := Ideal.pow (Ideal.ofBits .f32 0x40000000#32) (-(refExp t))

/-! ## Powers of two -/

/-- The real power of two with integer exponent, as an extended real. -/
def pw (n : ℤ) : EReal := (((2 : ℝ) ^ n : ℝ) : EReal)

/-- The bits of a field in the normal range: no sign, no fraction, the field itself. -/
theorem field_bits : ∀ f : Fin 255,
    (IntOp.shli .vector (BitVec.ofNat 32 f.val) 23#32).extractLsb' 31 1 = 0#1
      ∧ ((IntOp.shli .vector (BitVec.ofNat 32 f.val) 23#32).extractLsb' 23 8).toNat = f.val
      ∧ ((IntOp.shli .vector (BitVec.ofNat 32 f.val) 23#32).extractLsb' 0 23).toNat = 0 := by
  decide +kernel

/-- A pattern without sign and fraction and with the field `f` of the normal range is `2 ^ (f - 127)`. -/
theorem ieee_pow {b : BitVec 32} {f : ℕ} (h1 : 1 ≤ f) (h2 : f ≤ 254) (hs : b.extractLsb' 31 1 = 0#1)
    (he : (b.extractLsb' 23 8).toNat = f) (hf : (b.extractLsb' 0 23).toNat = 0) :
    Ideal.ofBits .f32 b = pw ((f : ℤ) - 127) := by
  show Ideal.ieee 8 23 b = _
  unfold Ideal.ieee
  simp only [show (8 + 23 : ℕ) = 31 from rfl, hs, he, hf]
  rw [if_neg (by norm_num; omega), if_neg (by omega)]
  unfold pw
  rw [EReal.coe_eq_coe_iff]
  have : ((f : ℤ) - (2 ^ (8 - 1) - 1) - (23 : ℕ)) = ((f : ℤ) - 127) + (-23) := by norm_num; ring
  rw [this, zpow_add₀ (by norm_num : (2 : ℝ) ≠ 0)]
  have h0 : ((0#1 : BitVec 1) == 1#1) = false := by decide
  rw [h0]
  norm_num
  ring

/-- A field in the normal range denotes `2 ^ (f - 127)`. -/
theorem atField_eq {f : ℕ} (h1 : 1 ≤ f) (h2 : f ≤ 254) : atField (BitVec.ofNat 32 f) = pw ((f : ℤ) - 127) := by
  obtain ⟨hs, he, hf⟩ := field_bits ⟨f, by omega⟩
  exact ieee_pow h1 h2 hs he hf

theorem pw_le_pw {m n : ℤ} (h : m ≤ n) : pw m ≤ pw n :=
  EReal.coe_le_coe_iff.2 (zpow_le_zpow_right₀ (by norm_num) h)

theorem pw_zero : pw 0 = 1 := by simp [pw]

theorem ofBits_one : Ideal.ofBits .f32 0x3F800000#32 = ((1 : ℝ) : EReal) := by
  rw [ieee_pow (f := 127) (by norm_num) (by norm_num) (by decide) (by decide) (by decide)]; simp [pw]

theorem ofBits_two : Ideal.ofBits .f32 0x40000000#32 = ((2 : ℝ) : EReal) := by
  rw [ieee_pow (f := 128) (by norm_num) (by norm_num) (by decide) (by decide) (by decide)]; simp [pw]

theorem ofBits_low : Ideal.ofBits .f32 0x00800000#32 = pw (-126) := by
  rw [ieee_pow (f := 1) (by norm_num) (by norm_num) (by decide) (by decide) (by decide)]; norm_num

theorem ofBits_high : Ideal.ofBits .f32 0x7E800000#32 = pw 126 := by
  rw [ieee_pow (f := 253) (by norm_num) (by norm_num) (by decide) (by decide) (by decide)]; norm_num

theorem ofBits_zero : Ideal.ofBits .f32 0x00000000#32 = ((0 : ℝ) : EReal) := by
  simp [Ideal.ofBits, Ideal.ieee]

/-! ## The search -/

/-- `t` reaches the power of two of the field `a`, compared at most at 253. -/
def Reaches (t : EReal) (a : ℕ) : Prop := pw ((min a 253 : ℕ) - 127) ≤ t

/-- The words of one step, for a field and a bit below 256. -/
theorem raise_words : ∀ s : Fin 256,
    IntOp.minsi (BitVec.ofNat 32 s.val) 253#32 = BitVec.ofNat 32 (min s.val 253) := by
  decide +kernel

/-- One step adds the bit where the number reaches the raised field, and only there. -/
theorem raise_ofNat (t : EReal) (a b : ℕ) (h1 : 1 ≤ a + b) (h : a + b ≤ 255) :
    (Reaches t (a + b) → raise t (BitVec.ofNat 32 a) (BitVec.ofNat 32 b) = BitVec.ofNat 32 (a + b))
      ∧ (¬ Reaches t (a + b) → raise t (BitVec.ofNat 32 a) (BitVec.ofNat 32 b) = BitVec.ofNat 32 a) := by
  have hadd : IntOp.addi (BitVec.ofNat 32 a) (BitVec.ofNat 32 b) = BitVec.ofNat 32 (a + b) := by
    unfold IntOp.addi; exact (BitVec.ofNat_add a b).symm
  have hmin : IntOp.minsi (BitVec.ofNat 32 (a + b)) 253#32 = BitVec.ofNat 32 (min (a + b) 253) :=
    raise_words ⟨a + b, by omega⟩
  have hcmp : Ideal.cmp .oge t (pw ((min (a + b) 253 : ℕ) - 127))
      = BitVec.ofBool (decide (pw ((min (a + b) 253 : ℕ) - 127) ≤ t)) := rfl
  unfold raise
  rw [hadd, hmin, atField_eq (by omega) (by omega), hcmp]
  constructor
  · intro hr
    rw [decide_eq_true (show pw ((min (a + b) 253 : ℕ) - 127) ≤ t from hr)]; rfl
  · intro hr
    rw [decide_eq_false (show ¬ pw ((min (a + b) 253 : ℕ) - 127) ≤ t from hr)]; rfl

/-- What the search keeps: the field `a` is reached (or zero), and `a` with the current bit added is not
    (or is past the last field). -/
def Kept (t : EReal) (a b : ℕ) : Prop := (a = 0 ∨ Reaches t a) ∧ (a + b = 256 ∨ ¬ Reaches t (a + b))

theorem kept_step (t : EReal) (f : BitVec 32) (b : ℕ) (hb : 1 ≤ b)
    (h : ∃ a : ℕ, f = BitVec.ofNat 32 a ∧ a + 2 * b ≤ 256 ∧ Kept t a (2 * b)) :
    ∃ a : ℕ, raise t f (BitVec.ofNat 32 b) = BitVec.ofNat 32 a ∧ a + b ≤ 256 ∧ Kept t a b := by
  obtain ⟨a, rfl, hle, hlo, hhi⟩ := h
  obtain ⟨hy, hn⟩ := raise_ofNat t a b (by omega) (by omega)
  by_cases hr : Reaches t (a + b)
  · refine ⟨a + b, hy hr, by omega, Or.inr hr, ?_⟩
    have : a + b + b = a + 2 * b := by omega
    rw [this]; exact hhi
  · exact ⟨a, hn hr, by omega, hlo, Or.inr hr⟩

/-- The field the search ends with is the last one that `t` reaches. -/
theorem field_kept (t : EReal) : ∃ a : ℕ, field t = BitVec.ofNat 32 a ∧ a + 1 ≤ 256 ∧ Kept t a 1 := by
  have h0 : ∃ a : ℕ, (0#32 : BitVec 32) = BitVec.ofNat 32 a ∧ a + 2 * 128 ≤ 256 ∧ Kept t a (2 * 128) :=
    ⟨0, rfl, by norm_num, Or.inl rfl, Or.inl rfl⟩
  exact kept_step t _ 1 (by norm_num) <| kept_step t _ 2 (by norm_num) <| kept_step t _ 4 (by norm_num) <|
    kept_step t _ 8 (by norm_num) <| kept_step t _ 16 (by norm_num) <| kept_step t _ 32 (by norm_num) <|
    kept_step t _ 64 (by norm_num) <| kept_step t _ 128 (by norm_num) h0

/-- The words of the scale, for every field. -/
theorem settle_words : ∀ a : Fin 256,
    (a.val = 0 ∨ a.val = 255 → settle (BitVec.ofNat 32 a.val) = 126#32)
      ∧ (1 ≤ a.val → a.val ≤ 254 → settle (BitVec.ofNat 32 a.val) = BitVec.ofNat 32 a.val
          ∧ IntOp.addi (BitVec.ofNat 32 a.val) 1#32 = BitVec.ofNat 32 (a.val + 1)
          ∧ (a.val ≤ 253 → IntOp.subi 253#32 (BitVec.ofNat 32 a.val) = BitVec.ofNat 32 (253 - a.val))) := by
  decide +kernel

theorem atField_127 : atField 127#32 = 1 := by
  have h := atField_eq (f := 127) (by norm_num) (by norm_num)
  rw [show (((127 : ℕ) : ℤ) - 127) = 0 by norm_num, pw_zero] at h
  exact h

/-- The three cases of the kernel's scale: one outside the range, else the next power of two. -/
theorem kernel_cases (t : EReal) :
    ((t < pw (-126) ∨ pw 126 ≤ t) ∧ scale t = 1 ∧ inv t = 1)
      ∨ ∃ n : ℤ, -126 ≤ n ∧ n < 126 ∧ pw n ≤ t ∧ t < pw (n + 1) ∧ scale t = pw (n + 1) ∧ inv t = pw (-(n + 1)) := by
  obtain ⟨a, hf, ha, hlo, hhi⟩ := field_kept t
  have hw := settle_words ⟨a, by omega⟩
  simp only [] at hw
  by_cases hz : a = 0 ∨ a = 255
  · left
    refine ⟨?_, ?_, ?_⟩
    · rcases hz with rfl | rfl
      · left
        rcases hhi with h | h
        · omega
        · unfold Reaches at h; norm_num at h; exact h
      · right
        rcases hlo with h | h
        · omega
        · unfold Reaches at h; norm_num at h; exact h
    · unfold scale; rw [hf, hw.1 hz]; exact atField_127
    · unfold inv; rw [hf, hw.1 hz]; exact atField_127
  · have h1 : 1 ≤ a := by omega
    have h2 : a ≤ 254 := by omega
    have hr : Reaches t a := hlo.resolve_left (by omega)
    have hn : ¬ Reaches t (a + 1) := hhi.resolve_left (by omega)
    have h3 : a ≤ 252 := by
      by_contra hc
      apply hn
      unfold Reaches at hr ⊢
      rw [show min (a + 1) 253 = min a 253 by omega]
      exact hr
    obtain ⟨w1, w2, w3⟩ := hw.2 h1 h2
    right
    refine ⟨(a : ℤ) - 127, by omega, by omega, ?_, ?_, ?_, ?_⟩
    · unfold Reaches at hr; rw [show min a 253 = a by omega] at hr; exact hr
    · unfold Reaches at hn
      rw [show min (a + 1) 253 = a + 1 by omega] at hn
      rw [show (a : ℤ) - 127 + 1 = ((a + 1 : ℕ) : ℤ) - 127 by push_cast; ring]
      exact not_le.1 hn
    · unfold scale
      rw [hf, w1, w2, atField_eq (by omega) (by omega)]
      congr 1; push_cast; ring
    · unfold inv
      rw [hf, w1, w3 (by omega), atField_eq (by omega) (by omega)]
      congr 1
      rw [Nat.cast_sub (by omega)]; push_cast; ring

/-! ## The reference -/

/-- Outside the range of the normal numbers the reference's exponent is zero. -/
theorem refExp_out {t : EReal} (h : t < pw (-126) ∨ pw 126 ≤ t) : refExp t = ((0 : ℝ) : EReal) := by
  unfold refExp Scalar.select
  rw [ofBits_low, ofBits_high, ofBits_zero]
  rw [if_neg]
  unfold Ideal.cmp IntOp.andi
  rcases h with h | h
  · simp [not_le.2 h]
  · simp [not_lt.2 h]

/-- In the range the reference's exponent is one more than that of the power of two below `t`. -/
theorem refExp_in {t : EReal} {n : ℤ} (h1 : -126 ≤ n) (h2 : n < 126) (hlo : pw n ≤ t) (hhi : t < pw (n + 1)) :
    refExp t = (((n + 1 : ℤ) : ℝ) : EReal) := by
  have hr : ∃ r : ℝ, t = (r : EReal) := by
    refine ⟨t.toReal, (EReal.coe_toReal ?_ ?_).symm⟩
    · rintro rfl; exact absurd hhi (not_lt.2 le_top)
    · rintro rfl; exact absurd hlo (not_le.2 (EReal.bot_lt_coe _))
  obtain ⟨r, rfl⟩ := hr
  have l1 : (2 : ℝ) ^ n ≤ r := EReal.coe_le_coe_iff.1 hlo
  have l2 : r < (2 : ℝ) ^ (n + 1) := EReal.coe_lt_coe_iff.1 hhi
  have hpos : 0 < r := lt_of_lt_of_le (by positivity) l1
  have hlog2 : 0 < Real.log 2 := Real.log_pos (by norm_num)
  have hfl : ⌊Real.log r * (Real.log 2)⁻¹⌋ = n := by
    rw [Int.floor_eq_iff, ← div_eq_mul_inv]
    constructor
    · rw [le_div_iff₀ hlog2, ← Real.log_zpow]
      exact Real.log_le_log (by positivity) l1
    · rw [div_lt_iff₀ hlog2, show ((n : ℝ) + 1) = ((n + 1 : ℤ) : ℝ) by push_cast; ring, ← Real.log_zpow]
      exact Real.log_lt_log hpos l2
  unfold refExp Scalar.select
  rw [ofBits_low, ofBits_high, ofBits_one, ofBits_two, if_pos]
  · rw [Ideal.log_coe, if_neg (not_le.2 hpos), Ideal.log_coe, if_neg (by norm_num)]
    unfold Ideal.div
    rw [if_neg (by rw [← EReal.coe_zero, EReal.coe_eq_coe_iff]; exact hlog2.ne'), ← EReal.coe_inv,
      ← EReal.coe_mul, Ideal.liftRound_coe, hfl, ← EReal.coe_add]
    push_cast; rfl
  · unfold Ideal.cmp IntOp.andi
    have c1 : pw (-126) ≤ (r : EReal) := le_trans (pw_le_pw h1) hlo
    have c2 : (r : EReal) < pw 126 := lt_of_lt_of_le hhi (pw_le_pw (by omega))
    simp [c1, c2]

theorem pow_two_int (n : ℤ) : Ideal.pow (Ideal.ofBits .f32 0x40000000#32) (((n : ℤ) : ℝ) : EReal) = pw n := by
  rw [ofBits_two]
  show (Real.rpow 2 (n : ℝ) : EReal) = _
  unfold pw
  congr 1
  exact Real.rpow_intCast 2 n

/-- **The scales agree**: for every extended real the kernel's scale is the reference's. -/
theorem scale_eq (t : EReal) : scale t = refScale t := by
  unfold refScale
  rcases kernel_cases t with ⟨h, hs, _⟩ | ⟨n, h1, h2, hlo, hhi, hs, _⟩
  · rw [hs, refExp_out h, show (0 : ℝ) = ((0 : ℤ) : ℝ) by norm_num, pow_two_int, pw_zero]
  · rw [hs, refExp_in h1 h2 hlo hhi, pow_two_int]

/-- **The reciprocals agree**: for every extended real the kernel's is the reference's. -/
theorem inv_eq (t : EReal) : inv t = refInv t := by
  unfold refInv
  rcases kernel_cases t with ⟨h, _, hs⟩ | ⟨n, h1, h2, hlo, hhi, _, hs⟩
  · rw [hs, refExp_out h, ← EReal.coe_neg, show (-(0 : ℝ)) = ((0 : ℤ) : ℝ) by norm_num, pow_two_int, pw_zero]
  · rw [hs, refExp_in h1 h2 hlo hhi, ← EReal.coe_neg, ← Int.cast_neg, pow_two_int]

end

end Cert.Quant
-- ==== Proof.Payload.lean ====
module

public import proofs.«01_k».proof.Proof.Gen.KernelIdeal.Value
public import proofs.«01_k».proof.Proof.Quant

@[expose] public section

/-!
# What one trip of the kernel's loop computes, element by element

A trip reads a 128 x 128 tile of the gate, of the up projection and of the incoming gradient, forms the two
gradient tiles dg and du and quantises each along its rows and along its columns. Here every value the trip
stores is read at an index as a function of the tile's elements.
-/

set_option maxRecDepth 16384

namespace Cert.Payload

open Idealize.ShloMosaic Idealize.SL.Sem Cert.KernelIdeal Cert.KernelIdeal.Gen Cert.Quant

noncomputable section

/-! ## The mathematics of one group -/

/-- The gradient of the gate, as the kernel multiplies it. -/
def gateGrad (g u d : EReal) : EReal :=
  d * Ideal.logistic g * u * (1 + g * (1 - Ideal.logistic g))

/-- The gradient of the up projection, as the kernel multiplies it. -/
def upGrad (g d : EReal) : EReal := d * Ideal.logistic g * g

/-- The largest magnitude of a group of 128 numbers, over 448. -/
def level (f : Fin 128 → EReal) : EReal :=
  (Finset.univ.fold max (Ideal.ofBits .f32 0xFF800000#32) fun k => max (f k) (-(f k)))
    * Ideal.ofBits .f32 0x3B124925#32

/-- A number clipped to the range of the format. -/
def clip (v : EReal) : EReal :=
  min (Ideal.ofBits .f32 0x43E00000#32) (max (Ideal.ofBits .f32 0xC3E00000#32) v)

/-- A code: the number over the scale of its group, clipped. -/
def code (v t : EReal) : EReal := clip (v * inv t)

/-! ## The search on vectors -/

section Vectors
variable {s : Shape}

/-- One step of the search on a vector. -/
def raiseV (t : FVec Ideal s .f32) (f : IVec s 32) (b : BitVec 32) : IVec s 32 := fun i => raise (t i) (f i) b

/-- The fields 0 and 255 sent to 126, on a vector. -/
def settleV (f : IVec s 32) : IVec s 32 := fun i => settle (f i)

/-- The settled field of every element. -/
def fieldV (t : FVec Ideal s .f32) : IVec s 32 := fun i => settle (field (t i))

/-- The kernel's operations of one step are that step. -/
theorem raiseV_fold (t : FVec Ideal s .f32) (f : IVec s 32) (b : BitVec 32) :
    select (cmpf .oge t (bitcastToFloat .f32 (shli (w := 32) (minsi (addi f (broadcast s b)) (broadcast s 253#32))
      (broadcast s 23#32)))) (addi f (broadcast s b)) f = raiseV t f b := rfl

/-- The kernel's operations that settle the field. -/
theorem settleV_fold (f : IVec s 32) :
    select (ori (cmpi .eq f (broadcast s 0#32)) (cmpi .eq f (broadcast s 255#32))) (broadcast s 126#32) f
      = settleV f := rfl

/-- The eight steps, settled. -/
theorem fieldV_fold (t : FVec Ideal s .f32) :
    settleV (raiseV t (raiseV t (raiseV t (raiseV t (raiseV t (raiseV t (raiseV t (raiseV t
      (broadcast s 0#32) 128#32) 64#32) 32#32) 16#32) 8#32) 4#32) 2#32) 1#32) = fieldV t := rfl

/-- The scale from the field. -/
theorem scaleV_apply (t : FVec Ideal s .f32) (i : s.Idx) :
    (bitcastToFloat .f32 (shli (w := 32) (addi (fieldV t) (broadcast s 1#32)) (broadcast s 23#32)) : FVec Ideal s .f32) i
      = scale (t i) := rfl

/-- The reciprocal of the scale from the field. -/
theorem invV_apply (t : FVec Ideal s .f32) (i : s.Idx) :
    (bitcastToFloat .f32 (shli (w := 32) (subi (broadcast s 253#32) (fieldV t)) (broadcast s 23#32)) : FVec Ideal s .f32) i
      = inv (t i) := rfl

end Vectors

section Tile
variable (arg1 : Memref sig .tc .vmem S128x8192 .bf16) (arg2 : Memref sig .tc .vmem S128x4096 .bf16)
  (X1 : BufTy.Contents (Elt Ideal) arg1.view.ty) (X2 : BufTy.Contents (Elt Ideal) arg2.view.ty)
  (k : Fin k0_t1_loop.trips)

/-- The trip's tile of the gate's gradient. -/
abbrev dgTile : FVec Ideal S128x128 .f32 := trip_k0_t1.sl.r arg1 arg2 X1 X2 k

/-- The trip's tile of the up projection's gradient. -/
abbrev duTile : FVec Ideal S128x128 .f32 := trip_k0_t1.sl.r_1 arg1 arg2 X1 X2 k

/-- The settled field of every row of dg. -/
theorem dg_rowField :
    k0_pay18 (F := Ideal) (trip_k0_t1.sl.r_3 arg1 arg2 X1 X2 k) (trip_k0_t1.sl.r_7 arg1 arg2 X1 X2 k)
      (trip_k0_t1.sl.r_8 arg1 arg2 X1 X2 k) (trip_k0_t1.sl.r_9 arg1 arg2 X1 X2 k)
      = fieldV (trip_k0_t1.sl.r_3 (F := Ideal) arg1 arg2 X1 X2 k) := by
  simp only [k0_pay18, trip_k0_t1.sl.r_9, trip_k0_t1.sl.r_8, trip_k0_t1.sl.r_7, k0_pay17, k0_pay16, k0_pay15,
    trip_k0_t1.sl.r_6, trip_k0_t1.sl.r_5, trip_k0_t1.sl.r_4, trip_k0_t1.sl.r_3, k0_pay14, k0_pay13, k0_pay12,
    raiseV_fold, settleV_fold, fieldV_fold]

/-- The settled field of every row of du. -/
theorem du_rowField :
    k0_pay35 (F := Ideal) (trip_k0_t1.sl.r_17 arg1 arg2 X1 X2 k) (trip_k0_t1.sl.r_19 arg1 arg2 X1 X2 k) k0_pay34
      = fieldV (trip_k0_t1.sl.r_17 (F := Ideal) arg1 arg2 X1 X2 k) := by
  simp only [k0_pay35, trip_k0_t1.sl.r_19, k0_pay34, k0_pay33, trip_k0_t1.sl.r_18, k0_pay32, k0_pay31,
    trip_k0_t1.sl.r_17, raiseV_fold, settleV_fold, fieldV_fold]

/-- The settled field of every column of dg. -/
theorem dg_colField :
    trip_k0_t1.sl.r_15 (F := Ideal) arg1 arg2 X1 X2 k
      = fieldV (trip_k0_t1.sl.r_13 (F := Ideal) arg1 arg2 X1 X2 k) := by
  simp only [trip_k0_t1.sl.r_15, k0_pay25, trip_k0_t1.sl.r_14, k0_pay24, trip_k0_t1.sl.r_13,
    raiseV_fold, settleV_fold, fieldV_fold]

/-- The settled field of every column of du. -/
theorem du_colField :
    k0_pay2 (trip_k0_t1.sl.r_27 (F := Ideal) arg1 arg2 X1 X2 k) (trip_k0_t1.sl.r_28 (F := Ideal) arg1 arg2 X1 X2 k) 126#32
      = fieldV (trip_k0_t1.sl.r_23 (F := Ideal) arg1 arg2 X1 X2 k) := by
  simp only [k0_pay2, trip_k0_t1.sl.r_28, trip_k0_t1.sl.r_27, k0_pay45, k0_pay44, trip_k0_t1.sl.r_26, trip_k0_t1.sl.r_25,
    trip_k0_t1.sl.r_24, k0_pay43, k0_pay42, k0_pay41, k0_pay40, trip_k0_t1.sl.r_23,
    raiseV_fold, settleV_fold, fieldV_fold]

/-- The level of a row of dg. -/
theorem dg_rowLevel (r : Fin 128) (z : Fin 1) :
    trip_k0_t1.sl.r_3 (F := Ideal) arg1 arg2 X1 X2 k (ix2 r z)
      = level fun l => dgTile arg1 arg2 X1 X2 k (ix2 r l) := by
  simp only [trip_k0_t1.sl.r_3, k0_pay11, k0_pay10, dgTile, trip_k0_t1.sl.r]
  pointwise
  rfl

/-- The level of a column of dg. -/
theorem dg_colLevel (z : Fin 1) (l : Fin 128) :
    trip_k0_t1.sl.r_13 (F := Ideal) arg1 arg2 X1 X2 k (ix2 z l)
      = level fun r => dgTile arg1 arg2 X1 X2 k (ix2 r l) := by
  simp only [trip_k0_t1.sl.r_13, k0_pay23, trip_k0_t1.sl.r_2, k0_pay10, dgTile, trip_k0_t1.sl.r]
  pointwise
  rfl

/-- The level of a row of du. -/
theorem du_rowLevel (r : Fin 128) (z : Fin 1) :
    trip_k0_t1.sl.r_17 (F := Ideal) arg1 arg2 X1 X2 k (ix2 r z)
      = level fun l => duTile arg1 arg2 X1 X2 k (ix2 r l) := by
  simp only [trip_k0_t1.sl.r_17, k0_pay30, k0_pay29, duTile]
  pointwise
  rfl

/-- The level of a column of du. -/
theorem du_colLevel (z : Fin 1) (l : Fin 128) :
    trip_k0_t1.sl.r_23 (F := Ideal) arg1 arg2 X1 X2 k (ix2 z l)
      = level fun r => duTile arg1 arg2 X1 X2 k (ix2 r l) := by
  simp only [trip_k0_t1.sl.r_23, k0_pay39, trip_k0_t1.sl.r_16, k0_pay29, duTile]
  pointwise
  rfl

/-- A row's scale of dg. -/
theorem dg_rowScale (r : Fin 128) (z : Fin 1) :
    trip_k0_t1.sl.r_10 (F := Ideal) arg1 arg2 X1 X2 k (ix2 r z)
      = scale (level fun l => dgTile arg1 arg2 X1 X2 k (ix2 r l)) := by
  simp only [trip_k0_t1.sl.r_10, k0_pay19, dg_rowField]
  rw [scaleV_apply, dg_rowLevel]

/-- A row's scale of du. -/
theorem du_rowScale (r : Fin 128) (z : Fin 1) :
    trip_k0_t1.sl.r_20 (F := Ideal) arg1 arg2 X1 X2 k (ix2 r z)
      = scale (level fun l => duTile arg1 arg2 X1 X2 k (ix2 r l)) := by
  simp only [trip_k0_t1.sl.r_20, k0_pay36, du_rowField]
  rw [scaleV_apply, du_rowLevel]

/-- The row codes of dg. -/
theorem dg_rowCode (r l : Fin 128) :
    k0_pay20 (F := Ideal) (trip_k0_t1.sl.r arg1 arg2 X1 X2 k) (trip_k0_t1.sl.r_3 arg1 arg2 X1 X2 k)
      (trip_k0_t1.sl.r_7 arg1 arg2 X1 X2 k) (trip_k0_t1.sl.r_8 arg1 arg2 X1 X2 k)
      (trip_k0_t1.sl.r_9 arg1 arg2 X1 X2 k) (ix2 r l)
      = code (dgTile arg1 arg2 X1 X2 k (ix2 r l)) (level fun l' => dgTile arg1 arg2 X1 X2 k (ix2 r l')) := by
  simp only [k0_pay20, dg_rowField]
  rw [← dg_rowLevel arg1 arg2 X1 X2 k r 0]
  pointwise
  rfl

/-- The row codes of du. -/
theorem du_rowCode (r l : Fin 128) :
    trip_k0_t1.sl.r_21 (F := Ideal) arg1 arg2 X1 X2 k (ix2 r l)
      = code (duTile arg1 arg2 X1 X2 k (ix2 r l)) (level fun l' => duTile arg1 arg2 X1 X2 k (ix2 r l')) := by
  simp only [trip_k0_t1.sl.r_21, k0_pay37, du_rowField]
  rw [← du_rowLevel arg1 arg2 X1 X2 k r 0]
  pointwise
  rfl

/-- The column codes of dg, transposed. -/
theorem dg_colCode (l r : Fin 128) :
    k0_pay27 (F := Ideal) (trip_k0_t1.sl.r arg1 arg2 X1 X2 k) (trip_k0_t1.sl.r_15 arg1 arg2 X1 X2 k) (ix2 l r)
      = code (dgTile arg1 arg2 X1 X2 k (ix2 r l)) (level fun r' => dgTile arg1 arg2 X1 X2 k (ix2 r' l)) := by
  simp only [k0_pay27, dg_colField]
  rw [← dg_colLevel arg1 arg2 X1 X2 k 0 l]
  pointwise
  rfl

/-- The column codes of du, transposed. -/
theorem du_colCode (l r : Fin 128) :
    k0_pay3 (F := Ideal) (trip_k0_t1.sl.r_1 arg1 arg2 X1 X2 k) (trip_k0_t1.sl.r_27 (F := Ideal) arg1 arg2 X1 X2 k)
      (trip_k0_t1.sl.r_28 (F := Ideal) arg1 arg2 X1 X2 k) 126#32 (ix2 l r)
      = code (duTile arg1 arg2 X1 X2 k (ix2 r l)) (level fun r' => duTile arg1 arg2 X1 X2 k (ix2 r' l)) := by
  simp only [k0_pay3, du_colField]
  rw [← du_colLevel arg1 arg2 X1 X2 k 0 l]
  pointwise
  rfl

/-- A column's scale of dg. -/
theorem dg_colScale (y z : Fin 1) (l : Fin 128) :
    k0_pay28 (F := Ideal) (trip_k0_t1.sl.r_15 arg1 arg2 X1 X2 k) k0_pay26 (ix3 y z l)
      = scale (level fun r => dgTile arg1 arg2 X1 X2 k (ix2 r l)) := by
  simp only [k0_pay28, k0_pay26, dg_colField]
  rw [← dg_colLevel arg1 arg2 X1 X2 k 0 l]
  pointwise
  rfl

/-- A column's scale of du. -/
theorem du_colScale (y z : Fin 1) (l : Fin 128) :
    k0_pay4 (F := Ideal) (trip_k0_t1.sl.r_27 (F := Ideal) arg1 arg2 X1 X2 k)
      (trip_k0_t1.sl.r_28 (F := Ideal) arg1 arg2 X1 X2 k) 126#32 (ix3 y z l)
      = scale (level fun r => duTile arg1 arg2 X1 X2 k (ix2 r l)) := by
  simp only [k0_pay4, du_colField]
  rw [← du_colLevel arg1 arg2 X1 X2 k 0 l]
  pointwise
  rfl

end Tile
end
end Cert.Payload
-- ==== Proof.Block.lean ====
module

public import proofs.«01_k».proof.Proof.Payload

@[expose] public section

/-!
# What one block of the kernel leaves in its four output buffers

A grid point holds 128 rows of the inputs. Its loop visits the 32 column groups; trip `k` writes the tiles of
columns `128 k …` (dg) and `4096 + 128 k …` (du). Here the pieces of all trips are shown to be pieces of one
function of the block's rows, for each of the four outputs.
-/

set_option maxRecDepth 16384

namespace Cert.Block

open Idealize.ShloMosaic Idealize.SL.Sem Cert.KernelIdeal Cert.KernelIdeal.Gen Cert.Quant Cert.Payload

noncomputable section

/-! ## The gradient of a row, and the groups -/

/-- The gradient of one row at column `c`: the gate's half first, then the up projection's. -/
def grad (x : Fin 8192 → EReal) (d : Fin 4096 → EReal) (c : Fin 8192) : EReal :=
  if h : c.val < 4096 then gateGrad (x c) (x ⟨c.val + 4096, by omega⟩) (d ⟨c.val, h⟩)
  else upGrad (x ⟨c.val - 4096, by omega⟩) (d ⟨c.val - 4096, by omega⟩)

/-- Column `l` of the group `j`. -/
def col (j : Fin 64) (l : Fin 128) : Fin 8192 := ⟨128 * j.val + l.val, by omega⟩

/-- The group of a column. -/
def grp (c : Fin 8192) : Fin 64 := ⟨c.val / 128, by omega⟩

theorem grp_col (j : Fin 64) (l : Fin 128) : grp (col j l) = j := by
  apply Fin.ext; simp only [grp, col]; omega

section
variable (x0 : Vec Ideal S128x8192 .bf16) (x1 : Vec Ideal S128x4096 .bf16)

/-- The gradient of a block at row `r`, column `c`. -/
def bgrad (r : Fin 128) (c : Fin 8192) : EReal := grad (fun c => x0 (ix2 r c)) (fun c => x1 (ix2 r c)) c

/-- The block's row codes. -/
def rowCodes (y : S128x8192.Idx) : EReal :=
  code (bgrad x0 x1 (y 0) (y 1)) (level fun l => bgrad x0 x1 (y 0) (col (grp (y 1)) l))

/-- The block's row scales. -/
def rowScales (y : S128x64.Idx) : EReal := scale (level fun l => bgrad x0 x1 (y 0) (col (y 1) l))

/-- The block's column codes, transposed. -/
def colCodes (y : S8192x128.Idx) : EReal :=
  code (bgrad x0 x1 (y 1) (y 0)) (level fun r => bgrad x0 x1 r (y 0))

/-- The block's column scales. -/
def colScales (y : S1x1x8192.Idx) : EReal := scale (level fun r => bgrad x0 x1 r (y 2))
end

/-! ## The tiles of one trip -/

section Trip
variable (arg1 : Memref sig .tc .vmem S128x8192 .bf16) (harg1 : arg1.IsWhole)
  (arg2 : Memref sig .tc .vmem S128x4096 .bf16) (harg2 : arg2.IsWhole)
  (x0 : Vec Ideal S128x8192 .bf16) (x1 : Vec Ideal S128x4096 .bf16) (k : Fin k0_t1_loop.trips)

theorem trips_eq : k0_t1_loop.trips = 32 := by decide +kernel

/-- The loop makes 32 trips. -/
theorem trip_lt (k : Fin k0_t1_loop.trips) : k.val < 32 := Nat.lt_of_lt_of_le k.isLt trips_eq.le

/-- The group of trip `k`'s dg tile. -/
def lo (k : Fin k0_t1_loop.trips) : Fin 64 := ⟨k.val, by have := trip_lt k; omega⟩

/-- The group of trip `k`'s du tile. -/
def hi (k : Fin k0_t1_loop.trips) : Fin 64 := ⟨k.val + 32, by have := trip_lt k; omega⟩

/-- Where an element of a 128-wide tile sits in a 128 x n array. -/
theorem emb_cols {n o : ℕ} {off : Fin 2 → ℕ} (h : off = ![0, o])
    (inb : ∀ a, off a + S128x128.size a ≤ (⟨2, ![128, n]⟩ : Shape).size a) (r l : Fin 128) (hl : o + l.val < n) :
    (Rect.unit (s := ⟨2, ![128, n]⟩) off S128x128.size inb).emb (ix2 r l) = ix2 r ⟨o + l.val, hl⟩ := by
  subst h
  funext a; apply Fin.ext
  rw [ValueKit.rect_emb_unit_val]
  fin_cases a <;> simp [ix2]

/-- Where an element of a 128-high tile sits in an n x 128 array. -/
theorem emb_rows {n o : ℕ} {off : Fin 2 → ℕ} (h : off = ![o, 0])
    (inb : ∀ a, off a + S128x128.size a ≤ (⟨2, ![n, 128]⟩ : Shape).size a) (l r : Fin 128) (hl : o + l.val < n) :
    (Rect.unit (s := ⟨2, ![n, 128]⟩) off S128x128.size inb).emb (ix2 l r) = ix2 ⟨o + l.val, hl⟩ r := by
  subst h
  funext a; apply Fin.ext
  rw [ValueKit.rect_emb_unit_val]
  fin_cases a <;> simp [ix2]

theorem off2_lo : k0_off2 k 0#32 = ![0, 128 * k.val] := by
  rw [show k0_off2 k 0#32 = _ from k0_off2_eq k 0]; rfl

theorem off2_hi : k0_off2 k 4096#32 = ![0, 128 * k.val + 4096] := k0_off2_eq k 1

theorem off4_lo : k0_off4 k 0#32 = ![128 * k.val, 0] := by
  rw [show k0_off4 k 0#32 = _ from k0_off4_eq k 0]; rfl

theorem off4_hi : k0_off4 k 4096#32 = ![128 * k.val + 4096, 0] := k0_off4_eq k 1

theorem off5_lo : k0_off5 k 0#32 = ![0, 0, 128 * k.val] := by
  rw [show k0_off5 k 0#32 = _ from k0_off5_eq k 0]; rfl

theorem off5_hi : k0_off5 k 4096#32 = ![0, 0, 128 * k.val + 4096] := k0_off5_eq k 1

/-- Where an element of a 128-wide row of scales sits. -/
theorem emb_scales {n o : ℕ} {off : Fin 3 → ℕ} (h : off = ![0, 0, o])
    (inb : ∀ a, off a + S1x1x128.size a ≤ (⟨3, ![1, 1, n]⟩ : Shape).size a) (y z : Fin 1) (l : Fin 128)
    (hl : o + l.val < n) :
    (Rect.unit (s := ⟨3, ![1, 1, n]⟩) off S1x1x128.size inb).emb (ix3 y z l) = ix3 y z ⟨o + l.val, hl⟩ := by
  subst h
  funext a; apply Fin.ext
  rw [ValueKit.rect_emb_unit_val]
  fin_cases a <;> simp [ix3]

/-- The dg tile of trip `k` is the gradient at the columns of group `k`. -/
theorem dgTile_apply (r l : Fin 128) :
    dgTile arg1 arg2 (harg1.unread x0) (harg2.unread x1) k (ix2 r l) = bgrad x0 x1 r (col (lo k) l) := by
  have hk := trip_lt k
  simp only [dgTile, trip_k0_t1.sl.r]
  simp only [View.readAt_eq_ld, harg1.read_unread, harg2.read_unread]
  simp only [k0_pay8, k0_pay7, k0_pay6, k0_pay5]
  pointwise
  simp only [k0_off1_eq k, off2_hi k, k0_off3_eq k]
  unfold bgrad grad gateGrad
  rw [dif_pos (by simp only [col, lo]; omega)]
  simp [col, lo, add_right_comm]

/-- The du tile of trip `k` is the gradient at the columns of group `k + 32`. -/
theorem duTile_apply (r l : Fin 128) :
    duTile arg1 arg2 (harg1.unread x0) (harg2.unread x1) k (ix2 r l) = bgrad x0 x1 r (col (hi k) l) := by
  have hk := trip_lt k
  simp only [duTile, trip_k0_t1.sl.r_1]
  simp only [View.readAt_eq_ld, harg1.read_unread, harg2.read_unread]
  simp only [k0_pay9, k0_pay7, k0_pay6, k0_pay5]
  pointwise
  simp only [k0_off1_eq k, k0_off3_eq k]
  unfold bgrad grad upGrad
  rw [dif_neg (by simp only [col, hi]; omega)]
  have h1 : 128 * (k.val + 32) + l.val - 4096 = 128 * k.val + l.val := by omega
  simp [col, hi, h1]

/-- A column of trip `k`'s dg tile. -/
theorem col_lo (l : Fin 128) (h : 128 * k.val + l.val < 8192) : (⟨128 * k.val + l.val, h⟩ : Fin 8192) = col (lo k) l :=
  rfl

/-- A column of trip `k`'s du tile. -/
theorem col_hi (l : Fin 128) (h : 128 * k.val + 4096 + l.val < 8192) :
    (⟨128 * k.val + 4096 + l.val, h⟩ : Fin 8192) = col (hi k) l :=
  Fin.ext (by simp only [col, hi]; omega)

/-- The row codes at a column given by its group. -/
theorem rowCodes_col (r : Fin 128) (j : Fin 64) (l : Fin 128) :
    rowCodes x0 x1 (ix2 r (col j l))
      = code (bgrad x0 x1 r (col j l)) (level fun l' => bgrad x0 x1 r (col j l')) := by
  show code (bgrad x0 x1 r (col j l)) (level fun l' => bgrad x0 x1 r (col (grp (col j l)) l')) = _
  rw [grp_col]

variable (𝒱 : Variants) (c : Dev nD) (bd : Option 𝒱.V) (i : grid0.Coords)
  (arg3 : Memref sig .tc .vmem S128x8192 .fp8e4m3) (harg3 : arg3.IsWhole)
  (arg4 : Memref sig .tc .vmem S128x64 .f32) (harg4 : arg4.IsWhole)
  (arg5 : Memref sig .tc .vmem S8192x128 .fp8e4m3) (harg5 : arg5.IsWhole)
  (arg6 : Memref sig .tc .vmem S1x1x8192 .f32) (harg6 : arg6.IsWhole)
  (v0 : IVec S128x64 32) (acc : FVec Ideal S128x64 .f32)

/-- What trip `k` writes into the row codes' buffer are pieces of the row codes. -/
theorem trip_rowCodes (p : View.Piece (Elt Ideal) S128x8192 .fp8e4m3)
    (hp : p ∈ (tripL_k0_t1 (F := Ideal) 𝒱 c bd i arg1 harg1 arg2 harg2 arg3 harg3 arg4 harg4 arg5 harg5 arg6 harg6 v0
      (harg1.unread x0) (harg2.unread x1) k acc).1) (y : p.1.shape.Idx) :
    p.2 y = rowCodes x0 x1 (p.1.emb y) := by
  have hk := trip_lt k
  dsimp only [tripL_k0_t1] at hp
  unfold trip_k0_t1 at hp
  dsimp only at hp
  rw [List.mem_cons, List.mem_singleton] at hp
  rcases hp with rfl | rfl
  · idx_vars y
    rw [du_rowCode]
    erw [emb_cols (off2_hi k) _ y0 y1 (by omega)]
    erw [col_hi, rowCodes_col]
    simp only [duTile_apply]
  · idx_vars y
    rw [dg_rowCode]
    erw [emb_cols (off2_lo k) _ y0 y1 (by omega)]
    erw [col_lo, rowCodes_col]
    simp only [dgTile_apply]

/-- What trip `k` writes into the transposed codes' buffer are pieces of the column codes. -/
theorem trip_colCodes (p : View.Piece (Elt Ideal) S8192x128 .fp8e4m3)
    (hp : p ∈ (tripL_k0_t1 (F := Ideal) 𝒱 c bd i arg1 harg1 arg2 harg2 arg3 harg3 arg4 harg4 arg5 harg5 arg6 harg6 v0
      (harg1.unread x0) (harg2.unread x1) k acc).2.1) (y : p.1.shape.Idx) :
    p.2 y = colCodes x0 x1 (p.1.emb y) := by
  have hk := trip_lt k
  dsimp only [tripL_k0_t1] at hp
  unfold trip_k0_t1 at hp
  dsimp only at hp
  rw [List.mem_cons, List.mem_singleton] at hp
  rcases hp with rfl | rfl
  · idx_vars y
    rw [du_colCode]
    erw [emb_rows (off4_hi k) _ y0 y1 (by omega)]
    erw [col_hi]
    simp only [duTile_apply]
    rfl
  · idx_vars y
    rw [dg_colCode]
    erw [emb_rows (off4_lo k) _ y0 y1 (by omega)]
    erw [col_lo]
    simp only [dgTile_apply]
    rfl

/-- What trip `k` writes into the column scales' buffer are pieces of the column scales. -/
theorem trip_colScales (p : View.Piece (Elt Ideal) S1x1x8192 .f32)
    (hp : p ∈ (tripL_k0_t1 (F := Ideal) 𝒱 c bd i arg1 harg1 arg2 harg2 arg3 harg3 arg4 harg4 arg5 harg5 arg6 harg6 v0
      (harg1.unread x0) (harg2.unread x1) k acc).2.2) (y : p.1.shape.Idx) :
    p.2 y = colScales x0 x1 (p.1.emb y) := by
  have hk := trip_lt k
  dsimp only [tripL_k0_t1] at hp
  unfold trip_k0_t1 at hp
  dsimp only at hp
  rw [List.mem_cons, List.mem_singleton] at hp
  rcases hp with rfl | rfl
  · idx_vars y
    rw [du_colScale]
    erw [emb_scales (off5_hi k) _ y0 y1 y2 (by omega)]
    erw [col_hi]
    simp only [duTile_apply]
    rfl
  · idx_vars y
    rw [dg_colScale]
    erw [emb_scales (off5_lo k) _ y0 y1 y2 (by omega)]
    erw [col_lo]
    simp only [dgTile_apply]
    rfl

/-- The words of the lane comparison. -/
theorem lane_words : ∀ (k : Fin 32) (j : Fin 64),
    IntOp.cmpi .eq (BitVec.ofNat 32 j.val) (Scalar.addi (Scf.iv 0#32 1#32 k) 0#32)
        = BitVec.ofBool (decide (j.val = k.val))
      ∧ IntOp.cmpi .eq (BitVec.ofNat 32 j.val) (Scalar.addi (Scf.iv 0#32 1#32 k) 32#32)
        = BitVec.ofBool (decide (j.val = k.val + 32)) := by
  decide +kernel

/-- What trip `k` passes on: the scales of its two groups put into their lanes. -/
theorem trip_yield (r : Fin 128) (j : Fin 64) :
    tripR_k0_t1 (F := Ideal) 𝒱 c bd i arg1 harg1 arg2 harg2 arg3 harg3 arg4 harg4 arg5 harg5 arg6 harg6
      kernelRun0_A.sl.v0 (harg1.unread x0) (harg2.unread x1) k acc (ix2 r j)
      = if j.val = k.val + 32 ∨ j.val = k.val then rowScales x0 x1 (ix2 r j) else acc (ix2 r j) := by
  dsimp only [tripR_k0_t1]
  unfold trip_k0_t1
  dsimp only
  simp only [trip_k0_t1.sl.r_22, k0_pay38, trip_k0_t1.sl.r_12, k0_pay22, trip_k0_t1.sl.r_11, k0_pay21, trip_k0_t1.sl.arg7,
    kernelRun0_A.sl.v0]
  pointwise
  obtain ⟨hl, hh⟩ := lane_words ⟨k.val, trip_lt k⟩ j
  erw [hl, hh]
  rw [du_rowScale, dg_rowScale]
  simp only [duTile_apply, dgTile_apply]
  unfold Scalar.select
  by_cases h1 : j.val = k.val + 32
  · rw [decide_eq_true h1, if_pos (by rfl), if_pos (Or.inl h1)]
    have : hi k = j := Fin.ext h1.symm
    rw [this]; rfl
  · rw [decide_eq_false h1, if_neg (by decide)]
    by_cases h2 : j.val = k.val
    · rw [decide_eq_true h2, if_pos (by rfl), if_pos (Or.inr h2)]
      have : lo k = j := Fin.ext h2.symm
      rw [this]; rfl
    · rw [decide_eq_false h2, if_neg (by decide), if_neg (by omega)]

/-- Before trip `n` every piece written so far is a piece of the block's codes or column scales, and the lanes
    visited so far carry their row scales. -/
theorem state_kept (init : FVec Ideal S128x64 .f32) (n : ℕ) (hn : n ≤ k0_t1_loop.trips) :
    let st := st_k0_t1 (F := Ideal) 𝒱 c bd i arg1 harg1 arg2 harg2 arg3 harg3 arg4 harg4 arg5 harg5 arg6 harg6
      kernelRun0_A.sl.v0 (harg1.unread x0) (harg2.unread x1) init n
    (∀ p ∈ st.2.1, ∀ y : p.1.shape.Idx, p.2 y = rowCodes x0 x1 (p.1.emb y))
      ∧ (∀ p ∈ st.2.2.1, ∀ y : p.1.shape.Idx, p.2 y = colCodes x0 x1 (p.1.emb y))
      ∧ (∀ p ∈ st.2.2.2, ∀ y : p.1.shape.Idx, p.2 y = colScales x0 x1 (p.1.emb y))
      ∧ ∀ (r : Fin 128) (j : Fin 64), j.val % 32 < n → st.1 (ix2 r j) = rowScales x0 x1 (ix2 r j) := by
  induction n with
  | zero =>
    refine ⟨fun p hp => ?_, fun p hp => ?_, fun p hp => ?_, fun r j h => absurd h (Nat.not_lt_zero _)⟩ <;>
      exact absurd hp (List.not_mem_nil)
  | succ n ih =>
    obtain ⟨h1, h2, h3, h4⟩ := ih (by omega)
    have hs := st_k0_t1_succ (F := Ideal) 𝒱 c bd i arg1 harg1 arg2 harg2 arg3 harg3 arg4 harg4 arg5 harg5 arg6 harg6
      kernelRun0_A.sl.v0 (harg1.unread x0) (harg2.unread x1) init ⟨n, by omega⟩
    intro st
    have hst : st = _ := hs
    rw [hst]
    refine ⟨fun p hp y => ?_, fun p hp y => ?_, fun p hp y => ?_, fun r j h => ?_⟩
    · rcases List.mem_append.1 hp with h | h
      · exact trip_rowCodes (hp := h) ..
      · exact h1 p h y
    · rcases List.mem_append.1 hp with h | h
      · exact trip_colCodes (hp := h) ..
      · exact h2 p h y
    · rcases List.mem_append.1 hp with h | h
      · exact trip_colScales (hp := h) ..
      · exact h3 p h y
    · have hj := j.isLt
      have hn' : n < 32 := by rw [trips_eq] at hn; omega
      dsimp only
      erw [trip_yield]
      by_cases hc : j.val = n + 32 ∨ j.val = n
      · rw [if_pos hc]
      · rw [if_neg hc]; exact h4 r j (by omega)

end Trip

/-! ## The four buffers of a point -/

section Out
variable (c : Dev nD) (i : grid0.Coords)
  (arg1 : Memref sig .tc .vmem S128x8192 .bf16) (harg1 : arg1.IsWhole)
  (arg2 : Memref sig .tc .vmem S128x4096 .bf16) (harg2 : arg2.IsWhole)
  (arg3 : Memref sig .tc .vmem S128x8192 .fp8e4m3) (harg3 : arg3.IsWhole)
  (arg4 : Memref sig .tc .vmem S128x64 .f32) (harg4 : arg4.IsWhole)
  (arg5 : Memref sig .tc .vmem S8192x128 .fp8e4m3) (harg5 : arg5.IsWhole)
  (arg6 : Memref sig .tc .vmem S1x1x8192 .f32) (harg6 : arg6.IsWhole)
  (x0 : Vec Ideal S128x8192 .bf16) (x1 : Vec Ideal S128x4096 .bf16)

/-- The row codes' buffer after the point. -/
theorem out_rowCodes : out0_A_2 (F := Ideal) c i arg1 harg1 arg2 harg2 arg3 harg3 arg4 harg4 arg5 harg5 arg6 harg6 x0 x1
    = rowCodes x0 x1 := by
  funext y
  unfold out0_A_2
  rw [View.read_writes_eq_canon _ _ _ (cover0_A_2 (F := Ideal) c i arg1 harg1 arg2 harg2 arg3 harg3 arg4 harg4 arg5 harg5 arg6 harg6 x0 x1)]
  refine View.canon_apply_of_pieces (rowCodes x0 x1) _ ?_ y (cover0_A_2 (F := Ideal) c i arg1 harg1 arg2 harg2 arg3 harg3 arg4 harg4 arg5 harg5 arg6 harg6 x0 x1 y)
  unfold kernelRun0_A
  dsimp only
  exact (state_kept arg1 harg1 arg2 harg2 x0 x1 _ c _ i arg3 harg3 arg4 harg4 arg5 harg5 arg6 harg6 _ _ le_rfl).1

/-- The transposed codes' buffer after the point. -/
theorem out_colCodes : out0_A_4 (F := Ideal) c i arg1 harg1 arg2 harg2 arg3 harg3 arg4 harg4 arg5 harg5 arg6 harg6 x0 x1
    = colCodes x0 x1 := by
  funext y
  unfold out0_A_4
  rw [View.read_writes_eq_canon _ _ _ (cover0_A_4 (F := Ideal) c i arg1 harg1 arg2 harg2 arg3 harg3 arg4 harg4 arg5 harg5 arg6 harg6 x0 x1)]
  refine View.canon_apply_of_pieces (colCodes x0 x1) _ ?_ y (cover0_A_4 (F := Ideal) c i arg1 harg1 arg2 harg2 arg3 harg3 arg4 harg4 arg5 harg5 arg6 harg6 x0 x1 y)
  unfold kernelRun0_A
  dsimp only
  exact (state_kept arg1 harg1 arg2 harg2 x0 x1 _ c _ i arg3 harg3 arg4 harg4 arg5 harg5 arg6 harg6 _ _ le_rfl).2.1

/-- The column scales' buffer after the point. -/
theorem out_colScales : out0_A_5 (F := Ideal) c i arg1 harg1 arg2 harg2 arg3 harg3 arg4 harg4 arg5 harg5 arg6 harg6 x0 x1
    = colScales x0 x1 := by
  funext y
  unfold out0_A_5
  rw [View.read_writes_eq_canon _ _ _ (cover0_A_5 (F := Ideal) c i arg1 harg1 arg2 harg2 arg3 harg3 arg4 harg4 arg5 harg5 arg6 harg6 x0 x1)]
  refine View.canon_apply_of_pieces (colScales x0 x1) _ ?_ y (cover0_A_5 (F := Ideal) c i arg1 harg1 arg2 harg2 arg3 harg3 arg4 harg4 arg5 harg5 arg6 harg6 x0 x1 y)
  unfold kernelRun0_A
  dsimp only
  exact (state_kept arg1 harg1 arg2 harg2 x0 x1 _ c _ i arg3 harg3 arg4 harg4 arg5 harg5 arg6 harg6 _ _ le_rfl).2.2.1

/-- The row scales' buffer after the point. -/
theorem out_rowScales : out0_A_3 (F := Ideal) c i arg1 harg1 arg2 harg2 arg3 harg3 arg4 harg4 arg5 harg5 arg6 harg6 x0 x1
    = rowScales x0 x1 := by
  have hz : (![0, 0] : Fin 2 → ℕ) = fun _ => 0 := funext fun a => by fin_cases a <;> rfl
  unfold out0_A_3
  rw [View.read_writes_eq_canon _ _ _ (cover0_A_3 (F := Ideal) c i arg1 harg1 arg2 harg2 arg3 harg3 arg4 harg4 arg5 harg5 arg6 harg6 x0 x1)]
  unfold kernelRun0_A
  dsimp only
  rw [View.canon_unit_zero hz]
  funext y
  idx_vars y
  exact (state_kept arg1 harg1 arg2 harg2 x0 x1 _ c _ i arg3 harg3 arg4 harg4 arg5 harg5 arg6 harg6 _ _ le_rfl).2.2.2 y0 y1
    (Nat.lt_of_lt_of_eq (Nat.mod_lt _ (by norm_num)) trips_eq.symm)

end Out
end
end Cert.Block
-- ==== Proof.Array.lean ====
module

public import proofs.«01_k».proof.Proof.Block

@[expose] public section

/-!
# What the kernel's four result arrays hold

The grid's 136 points hold 128 rows each, and each point writes its own block of every result. Here the blocks
are put together: each result array is one function of the two arguments.
-/

set_option maxRecDepth 16384

namespace Cert.Whole

open Idealize.ShloMosaic Idealize.ShloMosaic.TcCoe Idealize.SL.Sem
open Cert.KernelIdeal Cert.KernelIdeal.Gen Cert.Quant Cert.Payload Cert.Block

noncomputable section

/-! ## The four results as functions of the arguments -/

section
variable (x : S17x1024x8192.Idx → EReal) (d : S17x1024x4096.Idx → EReal)

/-- The gradient of token `n` at column `c`; the tokens are the first two axes of the arguments merged. -/
def tokenGrad (n : Fin 17408) (c : Fin 8192) : EReal :=
  grad (fun c => x (ix3 (n0 := 17) (n1 := 1024) (n2 := 8192) ⟨n.val / 1024, by omega⟩ ⟨n.val % 1024, by omega⟩ c))
    (fun c => d (ix3 (n0 := 17) (n1 := 1024) (n2 := 4096) ⟨n.val / 1024, by omega⟩ ⟨n.val % 1024, by omega⟩ c)) c

/-- Token `r` of the block `b` of 128 tokens. -/
def tok (b : Fin 136) (r : Fin 128) : Fin 17408 := ⟨128 * b.val + r.val, by omega⟩

/-- The block of a token. -/
def tokGrp (n : Fin 17408) : Fin 136 := ⟨n.val / 128, by omega⟩

/-- The row level: the group of 128 columns `j` of token `n`. -/
def rowLevel (n : Fin 17408) (j : Fin 64) : EReal := level fun l => tokenGrad x d n (col j l)

/-- The column level: the block of 128 tokens `b` at column `c`. -/
def colLevel (b : Fin 136) (c : Fin 8192) : EReal := level fun r => tokenGrad x d (tok b r) c

/-- Result 1: the row codes. -/
def codesR (y : S17408x8192.Idx) : EReal := code (tokenGrad x d (y 0) (y 1)) (rowLevel x d (y 0) (grp (y 1)))

/-- Result 2: the row scales. -/
def scalesR (y : S17408x64.Idx) : EReal := scale (rowLevel x d (y 0) (y 1))

/-- Result 3: the column codes, transposed. -/
def codesC (y : S8192x17408.Idx) : EReal := code (tokenGrad x d (y 1) (y 0)) (colLevel x d (tokGrp (y 1)) (y 0))

/-- Result 4: the column scales. -/
def scalesC (y : S136x1x8192.Idx) : EReal := scale (colLevel x d (y 0) (y 2))
end

/-! ## The blocks of a point -/

section
variable (m : (ℓ : Loc nD τ sig) → Buf (Elt Ideal) ℓ) (c : Dev nD)

/-- Every window moves one block per grid point, along its token axis. -/
theorem idx : ∀ t : Fin cfg0.N, t.val < 136 ∧ win0_0.index t = ![t.val, 0] ∧ win0_1.index t = ![t.val, 0]
    ∧ win0_2.index t = ![t.val, 0] ∧ win0_3.index t = ![t.val, 0] ∧ win0_4.index t = ![0, t.val]
    ∧ win0_5.index t = ![t.val, 0, 0] := (by decide +kernel : ∀ t : Fin grid0.N, _)

/-- The block number of a grid point. -/
def blkOf (t : Fin cfg0.N) : Fin 136 := ⟨t.val, (idx t).1⟩

/-- The first input's block at point `t`: rows of the first argument. -/
theorem block_x (t : Fin cfg0.N) (r : Fin 128) (k : Fin 8192) :
    (show FVec Ideal S128x8192 .bf16 from iblk m c 0 t) (ix2 r k)
      = m ((c : Thread nD τ).loc main_arg0) (ix3 (n0 := 17) (n1 := 1024) (n2 := 8192)
          ⟨(tok (blkOf t) r).val / 1024, by omega⟩ ⟨(tok (blkOf t) r).val % 1024, by omega⟩ k) := by
  blk_simp [iblk]
  entry_read
  pointwise
  blk_ext [tok, blkOf, (idx t).2.1]

/-- The second input's block at point `t`: rows of the second argument. -/
theorem block_d (t : Fin cfg0.N) (r : Fin 128) (k : Fin 4096) :
    (show FVec Ideal S128x4096 .bf16 from iblk m c 1 t) (ix2 r k)
      = m ((c : Thread nD τ).loc main_arg1) (ix3 (n0 := 17) (n1 := 1024) (n2 := 4096)
          ⟨(tok (blkOf t) r).val / 1024, by omega⟩ ⟨(tok (blkOf t) r).val % 1024, by omega⟩ k) := by
  blk_simp [iblk]
  entry_read
  pointwise
  blk_ext [tok, blkOf, (idx t).2.2.1]

/-- So the block's gradient is the gradient of the block's tokens. -/
theorem block_grad (t : Fin cfg0.N) (r : Fin 128) (k : Fin 8192) :
    bgrad (iblk m c 0 t) (iblk m c 1 t) r k
      = tokenGrad (m ((c : Thread nD τ).loc main_arg0)) (m ((c : Thread nD τ).loc main_arg1)) (tok (blkOf t) r) k := by
  unfold bgrad tokenGrad
  congr 1
  · funext k; exact block_x m c t r k
  · funext k; exact block_d m c t r k

/-- Reading the block's row codes at the place of a token. -/
theorem rowCodes_at (t : Fin cfg0.N) (y : S128x8192.Idx) (i : S17408x8192.Idx)
    (h0 : (i 0 : Fin 17408) = tok (blkOf t) (y 0)) (h1 : (i 1 : Fin 8192) = y 1) :
    rowCodes (iblk m c 0 t) (iblk m c 1 t) y
      = codesR (m ((c : Thread nD τ).loc main_arg0)) (m ((c : Thread nD τ).loc main_arg1)) i := by
  unfold rowCodes codesR Whole.rowLevel
  rw [h0, h1]
  exact congrArg₂ code (block_grad m c t (y 0) (y 1))
    (congrArg level (funext fun l => block_grad m c t (y 0) (col (grp (y 1)) l)))

/-- Reading the block's row scales at the place of a token. -/
theorem rowScales_at (t : Fin cfg0.N) (y : S128x64.Idx) (i : S17408x64.Idx)
    (h0 : (i 0 : Fin 17408) = tok (blkOf t) (y 0)) (h1 : (i 1 : Fin 64) = y 1) :
    rowScales (iblk m c 0 t) (iblk m c 1 t) y
      = scalesR (m ((c : Thread nD τ).loc main_arg0)) (m ((c : Thread nD τ).loc main_arg1)) i := by
  unfold rowScales scalesR Whole.rowLevel
  rw [h0, h1]
  exact congrArg scale (congrArg level (funext fun l => block_grad m c t (y 0) (col (y 1) l)))

theorem tokGrp_tok (b : Fin 136) (r : Fin 128) : tokGrp (tok b r) = b := by
  apply Fin.ext; simp only [tokGrp, tok]; omega

/-- Reading the block's transposed codes at the place of a token. -/
theorem colCodes_at (t : Fin cfg0.N) (y : S8192x128.Idx) (i : S8192x17408.Idx)
    (h0 : (i 0 : Fin 8192) = y 0) (h1 : (i 1 : Fin 17408) = tok (blkOf t) (y 1)) :
    colCodes (iblk m c 0 t) (iblk m c 1 t) y
      = codesC (m ((c : Thread nD τ).loc main_arg0)) (m ((c : Thread nD τ).loc main_arg1)) i := by
  unfold colCodes codesC Whole.colLevel
  rw [h0, h1]
  have hb : tokGrp (tok (blkOf t) (y 1)) = blkOf t := tokGrp_tok _ (y 1)
  exact congrArg₂ code (block_grad m c t (y 1) (y 0)) (congrArg level (funext fun r =>
    (block_grad m c t r (y 0)).trans (congrArg (fun b => tokenGrad _ _ (tok b r) (y 0)) hb.symm)))

/-- Reading the block's column scales at the place of the block. -/
theorem colScales_at (t : Fin cfg0.N) (y : S1x1x8192.Idx) (i : S136x1x8192.Idx)
    (h0 : (i 0 : Fin 136) = blkOf t) (h2 : (i 2 : Fin 8192) = y 2) :
    colScales (iblk m c 0 t) (iblk m c 1 t) y
      = scalesC (m ((c : Thread nD τ).loc main_arg0)) (m ((c : Thread nD τ).loc main_arg1)) i := by
  unfold colScales scalesC Whole.colLevel
  rw [h0, h2]
  exact congrArg scale (congrArg level (funext fun r => block_grad m c t r (y 2)))

/-- Result 1 after the run. -/
theorem final_codesR : (dats m 0 c).arrAt 2 cfg0.N
    = codesR (m ((c : Thread nD τ).loc main_arg0)) (m ((c : Thread nD τ).loc main_arg1)) := by
  refine (dats m 0 c).arrAt_eq_of_covers 2 _ (by decide +kernel) fun t hf y => ?_
  blk_simp
  rw [after0_2]
  unfold outsAt0
  dsimp only
  rw [out_rowCodes]
  refine rowCodes_at m c t y _ ?_ ?_ <;> (apply Fin.ext; blk_simp [tok, blkOf, (idx t).2.2.2.1]; try exact congrArg (· + _) (Nat.mul_comm _ _))

/-- Result 2 after the run. -/
theorem final_scalesR : (dats m 0 c).arrAt 3 cfg0.N
    = scalesR (m ((c : Thread nD τ).loc main_arg0)) (m ((c : Thread nD τ).loc main_arg1)) := by
  refine (dats m 0 c).arrAt_eq_of_covers 3 _ (by decide +kernel) fun t hf y => ?_
  blk_simp
  rw [after0_3]
  unfold outsAt0
  dsimp only
  rw [out_rowScales]
  refine rowScales_at m c t y _ ?_ ?_ <;> (apply Fin.ext; blk_simp [tok, blkOf, (idx t).2.2.2.2.1]; try exact congrArg (· + _) (Nat.mul_comm _ _))

/-- Result 3 after the run. -/
theorem final_codesC : (dats m 0 c).arrAt 4 cfg0.N
    = codesC (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  dsimp only
  rw [out_colCodes]
  refine colCodes_at m c t y _ ?_ ?_ <;> (apply Fin.ext; blk_simp [tok, blkOf, (idx t).2.2.2.2.2.1]; try exact congrArg (· + _) (Nat.mul_comm _ _))

/-- Result 4 after the run. -/
theorem final_scalesC : (dats m 0 c).arrAt 5 cfg0.N
    = scalesC (m ((c : Thread nD τ).loc main_arg0)) (m ((c : Thread nD τ).loc main_arg1)) := by
  refine (dats m 0 c).arrAt_eq_of_covers 5 _ (by decide +kernel) fun t hf y => ?_
  blk_simp
  rw [after0_5]
  unfold outsAt0
  dsimp only
  rw [out_colScales]
  refine colScales_at m c t y _ ?_ ?_ <;> (apply Fin.ext; blk_simp [tok, blkOf, (idx t).2.2.2.2.2.2]; try exact congrArg (· + _) (Nat.mul_comm _ _))

end
end
end Cert.Whole
-- ==== Proof.Reference.lean ====
module

public import proofs.«01_k».proof.Proof.Array
public import proofs.«01_k».proof.Proof.Gen.ReferenceIdeal.Value
public import Idealize.ShloMosaic.Lib.Pipeline.ValueKit
public import Idealize.ShloMosaic.Lib.Pointwise
public import Idealize.ShloMosaic.Lib.StableHlo.ReadAt

@[expose] public section

/-!
# What the reference's host line holds

The reference computes everything by host operations. Its line is cut in five: the gradient, the row levels, the
row results, the column levels, the column results. Each part is read at an index over the arrays the part before
left.
-/

set_option maxRecDepth 16384

namespace Cert.Ref

open Idealize.ShloMosaic Idealize.ShloMosaic.TcCoe Idealize.SL.Sem
open Cert.ReferenceIdeal Cert.ReferenceIdeal.Gen Cert.Quant Cert.Payload Cert.Block

noncomputable section

/-! ## The largest magnitude along one axis -/

section
variable {n0 n1 n2 n3 : ℕ} {u : Shape} (b : BitVec 32) (hu : 0 < u.numel)

/-- The maximum of magnitudes along the last of three axes, read at an index. -/
theorem absMax_last (h : (⟨3, ![n0, n1, n2]⟩ : Shape).ReducesTo [2] ⟨2, ![n0, n1]⟩)
    (x : FVec Ideal ⟨3, ![n0, n1, n2]⟩ .f32) (i : Fin n0) (j : Fin n1) :
    Host.reduce FloatOps.maximumf (Host.absf x) (constant (F := Ideal) u .f32 b) h hu (ix2 i j)
      = (Finset.univ : Finset (Fin n2)).fold max (Ideal.ofBits .f32 b) fun k => max (x (ix3 i j k)) (-(x (ix3 i j k))) := by
  rw [Host.reduce_eq_fold]
  exact h.fold_fiber_r3_a2 (ix2 i j) max _ (Host.absf x)

/-- The maximum of magnitudes along the second of four axes, read at an index. -/
theorem absMax_second (h : (⟨4, ![n0, n1, n2, n3]⟩ : Shape).ReducesTo [1] ⟨3, ![n0, n2, n3]⟩)
    (x : FVec Ideal ⟨4, ![n0, n1, n2, n3]⟩ .f32) (i : Fin n0) (j : Fin n2) (l : Fin n3) :
    Host.reduce FloatOps.maximumf (Host.absf x) (constant (F := Ideal) u .f32 b) h hu (ix3 i j l)
      = (Finset.univ : Finset (Fin n1)).fold max (Ideal.ofBits .f32 b) fun k => max (x (ix4 i k j l)) (-(x (ix4 i k j l))) := by
  rw [Host.reduce_eq_fold]
  exact h.fold_fiber_r4_a1 (ix3 i j l) max _ (Host.absf x)
end

/-- The reference's code of `v` in a group of level `t`. -/
def refCode (v t : EReal) : EReal := clip (v * refInv t)

/-- The reference's exponent with its constant one read. -/
theorem refExp_eq (t : EReal) : refExp t = Scalar.select (IntOp.andi (Ideal.cmp .oge t (Ideal.ofBits .f32 0x00800000#32))
      (Ideal.cmp .olt t (Ideal.ofBits .f32 0x7E800000#32)))
    (Ideal.liftRound Int.floor (Ideal.div (Ideal.log t) (Ideal.log (Ideal.ofBits .f32 0x40000000#32))) + 1)
    (Ideal.ofBits .f32 0x00000000#32) := by
  unfold refExp
  rw [ofBits_one]
  rfl

/-- The reference's code, all in one. -/
theorem refCode_eq (v t : EReal) : min (Ideal.ofBits .f32 0x43E00000#32) (max (Ideal.ofBits .f32 0xC3E00000#32)
    (v * Ideal.pow (Ideal.ofBits .f32 0x40000000#32)
      (-(Scalar.select (IntOp.andi (Ideal.cmp .oge t (Ideal.ofBits .f32 0x00800000#32))
        (Ideal.cmp .olt t (Ideal.ofBits .f32 0x7E800000#32)))
      (Ideal.liftRound Int.floor (Ideal.div (Ideal.log t) (Ideal.log (Ideal.ofBits .f32 0x40000000#32))) + 1)
      (Ideal.ofBits .f32 0x00000000#32))))) = refCode v t := by
  unfold refCode clip refInv
  rw [refExp_eq]

/-- The reference's scale, all in one. -/
theorem refScale_eq (t : EReal) : Ideal.pow (Ideal.ofBits .f32 0x40000000#32)
      (Scalar.select (IntOp.andi (Ideal.cmp .oge t (Ideal.ofBits .f32 0x00800000#32))
        (Ideal.cmp .olt t (Ideal.ofBits .f32 0x7E800000#32)))
      (Ideal.liftRound Int.floor (Ideal.div (Ideal.log t) (Ideal.log (Ideal.ofBits .f32 0x40000000#32))) + 1)
      (Ideal.ofBits .f32 0x00000000#32)) = refScale t := by
  unfold refScale
  rw [refExp_eq]

/-! ## The gradient's two halves in the reference's order -/

/-- The gate's half: the reference multiplies by the up projection before the logistic. -/
theorem gate_form (X : Fin 8192 → EReal) (D : Fin 4096 → EReal) (j : Fin 64) (l : Fin 128) (hj : j.val < 32)
    (a b : Fin 8192) (d : Fin 4096) (ha : a.val = j.val * 128 + l.val) (hb : b.val = (32 + j.val) * 128 + l.val)
    (hd : d.val = j.val * 128 + l.val) :
    D d * X b * Ideal.div 1 (1 + Ideal.exp (-X a)) * (1 + X a * (1 - Ideal.div 1 (1 + Ideal.exp (-X a))))
      = grad X D (col j l) := by
  have hc : (col j l).val < 4096 := by simp only [col]; omega
  obtain rfl : a = col j l := Fin.ext (by simp only [col]; omega)
  have hb' : (col j l).val + 4096 < 8192 := by omega
  obtain rfl : b = ⟨(col j l).val + 4096, hb'⟩ := Fin.ext (by simp only [col] at hb ⊢; omega)
  obtain rfl : d = ⟨(col j l).val, hc⟩ := Fin.ext (by simp only [col] at hd ⊢; omega)
  unfold grad gateGrad
  rw [dif_pos hc, mul_right_comm (D _)]
  rfl

/-- The up projection's half: the reference multiplies by the gate before the logistic. -/
theorem up_form (X : Fin 8192 → EReal) (D : Fin 4096 → EReal) (j : Fin 64) (l : Fin 128) (hj : ¬ j.val < 32)
    (a : Fin 8192) (d : Fin 4096) (ha : a.val = (j.val - 32) * 128 + l.val) (hd : d.val = (j.val - 32) * 128 + l.val) :
    D d * X a * Ideal.div 1 (1 + Ideal.exp (-X a)) = grad X D (col j l) := by
  have hc : ¬ (col j l).val < 4096 := by simp only [col]; omega
  have hl := l.isLt
  have h8 : (col j l).val - 4096 < 8192 := by omega
  have h4 : (col j l).val - 4096 < 4096 := by simp only [col]; omega
  obtain rfl : a = ⟨(col j l).val - 4096, h8⟩ := Fin.ext (by simp only [col] at ha ⊢; omega)
  obtain rfl : d = ⟨(col j l).val - 4096, h4⟩ := Fin.ext (by simp only [col] at hd ⊢; omega)
  unfold grad upGrad
  rw [dif_neg hc, mul_right_comm (D _)]
  rfl

/-! ## The five parts of the host line -/

/-- The gradient. -/
abbrev opsA : List (HloOp τ sig (Elt Ideal)) := hostOps0.take 28
/-- The row levels. -/
abbrev opsB : List (HloOp τ sig (Elt Ideal)) := (hostOps0.drop 28).take 7
/-- The row results. -/
abbrev opsC : List (HloOp τ sig (Elt Ideal)) := hostOps0.drop 35 ++ (hostOps0_1 ++ (hostOps0_2 ++ (hostOps0_3 ++ hostOps0_4.take 2)))
/-- The gradient by blocks of tokens, and the column levels. -/
abbrev opsD : List (HloOp τ sig (Elt Ideal)) := (hostOps0_4.drop 2).take 8
/-- The column results. -/
abbrev opsE : List (HloOp τ sig (Elt Ideal)) := hostOps0_4.drop 10 ++ (hostOps0_5 ++ (hostOps0_6 ++ (hostOps0_7 ++ hostOps0_8)))

section
variable (σ : Valuation τ sig (Elt Ideal))

abbrev rx : FVec Ideal S17x1024x8192 .bf16 := σ (Proc.devRef .tc main_arg0)
abbrev rd : FVec Ideal S17x1024x4096 .bf16 := σ (Proc.devRef .tc main_arg1)
abbrev r23 : FVec Ideal S17408x64x128 .f32 := σ (Proc.devRef .tc main_v23)
abbrev r28 : FVec Ideal S17408x64x1 .f32 := σ (Proc.devRef .tc main_v28)
abbrev r51 : FVec Ideal S17408x8192 .f32 := σ (Proc.devRef .tc main_v51)
abbrev r52 : FVec Ideal S17408x64 .f32 := σ (Proc.devRef .tc main_v52)
abbrev r53 : FVec Ideal S136x128x64x128 .f32 := σ (Proc.devRef .tc main_v53)
abbrev r58 : FVec Ideal S136x1x64x128 .f32 := σ (Proc.devRef .tc main_v58)
abbrev r83 : FVec Ideal S8192x17408 .f32 := σ (Proc.devRef .tc main_v83)
abbrev r84 : FVec Ideal S136x1x8192 .f32 := σ (Proc.devRef .tc main_v84)

/-- The first part leaves the tokens' gradient. -/
theorem a23 (n : Fin 17408) (j : Fin 64) (l : Fin 128) :
    r23 (StableHlo.after opsA σ) (ix3 n j l) = Whole.tokenGrad (rx σ) (rd σ) n (col j l) := by
  dsimp only [r23, rx, rd]
  after_reads_at
  unfold Whole.tokenGrad
  by_cases h : j.val < 32
  · rw [dif_pos h]
    exact gate_form (fun c => rx σ (ix3 ⟨n.val / 1024, by omega⟩ ⟨n.val % 1024, by omega⟩ c))
      (fun c => rd σ (ix3 ⟨n.val / 1024, by omega⟩ ⟨n.val % 1024, by omega⟩ c)) j l h _ _ _ rfl rfl rfl
  · rw [dif_neg h]
    exact up_form (fun c => rx σ (ix3 ⟨n.val / 1024, by omega⟩ ⟨n.val % 1024, by omega⟩ c))
      (fun c => rd σ (ix3 ⟨n.val / 1024, by omega⟩ ⟨n.val % 1024, by omega⟩ c)) j l h _ _ rfl rfl

/-- Reading the row level's scaling at an index. -/
theorem rowTail (R : FVec Ideal S17408x64 .f32) (n : Fin 17408) (j : Fin 64) :
    mulf (broadcastInDim S17408x64x1 ![0, 1] bcast_S17408x64_S17408x64x1_0_1 R)
      (broadcastInDim S17408x64x1 ![] bcast_S_S17408x64x1 (constant (F := Ideal) S_ .f32 0x3B124925#32)) (ix3 n j 0)
    = R (ix2 n j) * Ideal.ofBits .f32 0x3B124925#32 := by
  pointwise

/-- The second part leaves the row levels of the gradient. -/
theorem b28 (n : Fin 17408) (j : Fin 64) :
    r28 (StableHlo.after opsB σ) (ix3 n j 0) = level fun l => r23 σ (ix3 n j l) := by
  have h : r28 (StableHlo.after opsB σ) = mulf (broadcastInDim S17408x64x1 ![0, 1] bcast_S17408x64_S17408x64x1_0_1
      (Host.reduce FloatOps.maximumf (Host.absf (r23 σ)) (constant S_ .f32 0xFF800000#32) reducesTo_S17408x64x128_S17408x64_d2 h_S_))
      (broadcastInDim S17408x64x1 ![] bcast_S_S17408x64x1 (constant S_ .f32 0x3B124925#32)) := by
    dsimp only [r28, r23]
    after_reads_simp
  rw [h]
  exact (rowTail _ n j).trans (congrArg (fun z : EReal => z * Ideal.ofBits .f32 0x3B124925#32)
    (absMax_last 0xFF800000#32 h_S_ reducesTo_S17408x64x128_S17408x64_d2 (r23 σ) n j))

/-- The second part keeps the gradient. -/
theorem b23 : r23 (StableHlo.after opsB σ) = r23 σ := by
  dsimp only [r23]
  after_reads_simp

/-- The third part leaves the row scales. -/
theorem c52 (n : Fin 17408) (j : Fin 64) : r52 (StableHlo.after opsC σ) (ix2 n j) = refScale (r28 σ (ix3 n j 0)) := by
  dsimp only [r52, r28]
  after_reads_at
  exact refScale_eq _

/-- The third part leaves the row codes. -/
theorem c51 (n : Fin 17408) (k : Fin 8192) : r51 (StableHlo.after opsC σ) (ix2 n k)
    = refCode (r23 σ (ix3 n (grp k) ⟨k.val % 128, by omega⟩)) (r28 σ (ix3 n (grp k) 0)) := by
  dsimp only [r51, r28, r23]
  after_reads_at
  exact refCode_eq _ _

/-- The third part keeps the gradient. -/
theorem c23 : r23 (StableHlo.after opsC σ) = r23 σ := by
  dsimp only [r23]
  after_reads_simp

/-- The fourth part keeps the row results. -/
theorem d51 : r51 (StableHlo.after opsD σ) = r51 σ := by
  dsimp only [r51]
  after_reads_simp
theorem d52 : r52 (StableHlo.after opsD σ) = r52 σ := by
  dsimp only [r52]
  after_reads_simp

/-- The fourth part leaves the gradient by blocks of tokens. -/
theorem d53 (b : Fin 136) (r : Fin 128) (j : Fin 64) (l : Fin 128) :
    r53 (StableHlo.after opsD σ) (ix4 b r j l) = r23 σ (ix3 (Whole.tok b r) j l) := by
  dsimp only [r53, r23]
  after_reads_at
  congr 2
  exact Fin.ext (by simp only [Whole.tok]; omega)

/-- Reading the column level's scaling at an index. -/
theorem colTail (R : FVec Ideal S136x64x128 .f32) (b : Fin 136) (j : Fin 64) (l : Fin 128) :
    mulf (broadcastInDim S136x1x64x128 ![0, 2, 3] bcast_S136x64x128_S136x1x64x128_0_2_3 R)
      (broadcastInDim S136x1x64x128 ![] bcast_S_S136x1x64x128 (constant (F := Ideal) S_ .f32 0x3B124925#32)) (ix4 b 0 j l)
    = R (ix3 b j l) * Ideal.ofBits .f32 0x3B124925#32 := by
  pointwise

/-- The fourth part leaves the column levels. -/
theorem d58 (b : Fin 136) (j : Fin 64) (l : Fin 128) :
    r58 (StableHlo.after opsD σ) (ix4 b 0 j l) = level fun r => r23 σ (ix3 (Whole.tok b r) j l) := by
  have h : r58 (StableHlo.after opsD σ) = mulf (broadcastInDim S136x1x64x128 ![0, 2, 3] bcast_S136x64x128_S136x1x64x128_0_2_3
      (Host.reduce FloatOps.maximumf (Host.absf (r53 (StableHlo.after opsD σ))) (constant S_ .f32 0xFF800000#32)
        reducesTo_S136x128x64x128_S136x64x128_d1 h_S_))
      (broadcastInDim S136x1x64x128 ![] bcast_S_S136x1x64x128 (constant S_ .f32 0x3B124925#32)) := by
    dsimp only [r58, r53]
    after_reads_simp
  rw [h]
  refine (colTail _ b j l).trans (congrArg (fun z : EReal => z * Ideal.ofBits .f32 0x3B124925#32)
    ((absMax_second 0xFF800000#32 h_S_ reducesTo_S136x128x64x128_S136x64x128_d1 (r53 (StableHlo.after opsD σ)) b j l).trans ?_))
  exact congrArg (fun f => Finset.univ.fold max (Ideal.ofBits .f32 0xFF800000#32) f)
    (funext fun r => congrArg (fun z : EReal => max z (-z)) (d53 σ b r j l))

/-- The last part keeps the row results. -/
theorem e51 : r51 (StableHlo.after opsE σ) = r51 σ := by
  dsimp only [r51]
  after_reads_simp
theorem e52 : r52 (StableHlo.after opsE σ) = r52 σ := by
  dsimp only [r52]
  after_reads_simp

/-- The last part leaves the column scales. -/
theorem e84 (b : Fin 136) (k : Fin 8192) : r84 (StableHlo.after opsE σ) (ix3 b 0 k)
    = refScale (r58 σ (ix4 b 0 (grp k) ⟨k.val % 128, by omega⟩)) := by
  dsimp only [r84, r58]
  after_reads_at
  exact refScale_eq _

/-- The last part leaves the transposed column codes. -/
theorem e83 (k : Fin 8192) (n : Fin 17408) : r83 (StableHlo.after opsE σ) (ix2 k n)
    = refCode (r53 σ (ix4 (Whole.tokGrp n) ⟨n.val % 128, by omega⟩ (grp k) ⟨k.val % 128, by omega⟩))
        (r58 σ (ix4 (Whole.tokGrp n) 0 (grp k) ⟨k.val % 128, by omega⟩)) := by
  dsimp only [r83, r53, r58]
  after_reads_at
  exact refCode_eq _ _

end
end
end Cert.Ref
-- ==== Proof.Results.lean ====
module

public import proofs.«01_k».proof.Proof.Reference

@[expose] public section

/-!
# What the reference's four results hold

The reference's two code arrays pass through one region that only changes their format; its two scale arrays are
host results. All four are the functions of the arguments that the kernel's results are.
-/

set_option maxRecDepth 16384

namespace Cert.Ref

open Idealize.ShloMosaic Idealize.ShloMosaic.TcCoe Idealize.SL.Sem
open Cert.ReferenceIdeal Cert.ReferenceIdeal.Gen Cert.Quant Cert.Payload Cert.Block Cert.Whole

noncomputable section

/-- The two programs' codes are one function of the value and the level. -/
theorem code_eq (v t : EReal) : refCode v t = code v t := by
  unfold refCode code
  rw [inv_eq]

theorem ext2 {n0 n1 : Nat} {f g : (⟨2, ![n0, n1]⟩ : Shape).Idx → EReal} (h : ∀ a b, f (ix2 a b) = g (ix2 a b)) :
    f = g :=
  funext fun y => (ix2_eta y) ▸ h (y 0) (y 1)

theorem ext3 {n0 n2 : Nat} {f g : (⟨3, ![n0, 1, n2]⟩ : Shape).Idx → EReal}
    (h : ∀ a b, f (ix3 a 0 b) = g (ix3 a 0 b)) : f = g := by
  funext y
  have e : ix3 (n0 := n0) (n1 := 1) (n2 := n2) (y 0) 0 (y 2) = y := by
    refine Eq.trans ?_ (ix3_eta y)
    rw [Subsingleton.elim (0 : Fin 1) (y 1)]
  exact e ▸ h (y 0) (y 2)

/-! ## The host line, part after part -/

section
variable (σ : Valuation τ sig (Elt Ideal))

/-- The valuation after the parts that make the row results. -/
abbrev rowState : Valuation τ sig (Elt Ideal) :=
  StableHlo.after opsC (StableHlo.after opsB (StableHlo.after opsA σ))

/-- The valuation after the whole line. -/
abbrev endState : Valuation τ sig (Elt Ideal) := StableHlo.after opsE (StableHlo.after opsD (rowState σ))

theorem grad_row (n : Fin 17408) (j : Fin 64) (l : Fin 128) :
    r23 (rowState σ) (ix3 n j l) = tokenGrad (rx σ) (rd σ) n (col j l) := by
  rw [c23, b23, a23]

theorem level_row (n : Fin 17408) (j : Fin 64) :
    r28 (StableHlo.after opsB (StableHlo.after opsA σ)) (ix3 n j 0) = rowLevel (rx σ) (rd σ) n j := by
  rw [b28]
  exact congrArg level (funext fun l => a23 σ n j l)

theorem col_of (k : Fin 8192) : col (grp k) ⟨k.val % 128, by omega⟩ = k := by
  apply Fin.ext; simp only [grp, col]; omega

theorem tok_of (n : Fin 17408) : tok (tokGrp n) ⟨n.val % 128, by omega⟩ = n := by
  apply Fin.ext; simp only [tokGrp, tok]; omega

/-- The row codes before their region. -/
theorem line_codesR (n : Fin 17408) (k : Fin 8192) :
    r51 (endState σ) (ix2 n k) = code (tokenGrad (rx σ) (rd σ) n k) (rowLevel (rx σ) (rd σ) n (grp k)) := by
  rw [e51, d51, c51, b23, a23, level_row, col_of, code_eq]

/-- The row scales. -/
theorem line_scalesR (n : Fin 17408) (j : Fin 64) :
    r52 (endState σ) (ix2 n j) = scale (rowLevel (rx σ) (rd σ) n j) := by
  rw [e52, d52, c52, level_row, scale_eq]

theorem level_col (b : Fin 136) (k : Fin 8192) :
    r58 (StableHlo.after opsD (rowState σ)) (ix4 b 0 (grp k) ⟨k.val % 128, by omega⟩) = colLevel (rx σ) (rd σ) b k := by
  rw [d58]
  exact congrArg level (funext fun r => (grad_row σ (tok b r) (grp k) _).trans
    (congrArg (tokenGrad (rx σ) (rd σ) (tok b r)) (col_of k)))

/-- The column codes before their region. -/
theorem line_codesC (k : Fin 8192) (n : Fin 17408) :
    r83 (endState σ) (ix2 k n) = code (tokenGrad (rx σ) (rd σ) n k) (colLevel (rx σ) (rd σ) (tokGrp n) k) := by
  rw [e83, level_col, d53, grad_row, col_of, tok_of, code_eq]

/-- The column scales. -/
theorem line_scalesC (b : Fin 136) (k : Fin 8192) :
    r84 (endState σ) (ix3 b 0 k) = scale (colLevel (rx σ) (rd σ) b k) := by
  rw [e84, level_col, scale_eq]
end

variable (m : (ℓ : Loc nD τ sig) → Buf (Elt Ideal) ℓ) (c : Dev nD)

/-- The memory of one device. -/
abbrev start : Valuation τ sig (Elt Ideal) := fun b => m (c, b)

/-- The host line is its five parts in a row. -/
theorem line_split (r : Ref sig .tc) : V m c r = endState (start m c) (Proc.tc.devRef r) := by
  have h : List.flatten [hostOps0, hostOps0_1, hostOps0_2, hostOps0_3, hostOps0_4, hostOps0_5, hostOps0_6, hostOps0_7,
      hostOps0_8] = opsA ++ (opsB ++ (opsC ++ (opsD ++ opsE))) := by
    rfl
  unfold V
  rw [h]
  simp only [StableHlo.after_append]

/-! ## The region: each result is its operand -/

/-- The region has one point, and every window of it starts at the array's origin. -/
theorem at_zero : ∀ t : Fin cfg0.N, (∀ a, win0_0.index t a = 0) ∧ (∀ a, win0_1.index t a = 0)
    ∧ (∀ a, win0_2.index t a = 0) ∧ ∀ a, win0_3.index t a = 0 := by decide +kernel

theorem emb_0 (t : Fin cfg0.N) (y : S17408x8192.Idx) :
    ((win0_0.rect t).emb y : S17408x8192.Idx) = ((win0_2.rect t).emb y : S17408x8192.Idx) :=
  funext fun a => Fin.ext ((Pipeline.Window.rect_emb_val_of_index_zero win0_0 t a ((at_zero t).1 a) y).trans
    (Pipeline.Window.rect_emb_val_of_index_zero win0_2 t a ((at_zero t).2.2.1 a) y).symm)

theorem emb_1 (t : Fin cfg0.N) (y : S8192x17408.Idx) :
    ((win0_1.rect t).emb y : S8192x17408.Idx) = ((win0_3.rect t).emb y : S8192x17408.Idx) :=
  funext fun a => Fin.ext ((Pipeline.Window.rect_emb_val_of_index_zero win0_1 t a ((at_zero t).2.1 a) y).trans
    (Pipeline.Window.rect_emb_val_of_index_zero win0_3 t a ((at_zero t).2.2.2 a) y).symm)

theorem read_0 (t : Fin cfg0.N) (G : S17408x8192.Idx → EReal) (y : S17408x8192.Idx) :
    View.read (Elt Ideal) ((View.whole main_v51).slice ((win0 0).rect t)) G y
      = G (((View.whole main_v85_0).slice (win0_2.rect t)).emb y) :=
  congrArg G (emb_0 t y)

theorem read_1 (t : Fin cfg0.N) (G : S8192x17408.Idx → EReal) (y : S8192x17408.Idx) :
    View.read (Elt Ideal) ((View.whole main_v83).slice ((win0 1).rect t)) G y
      = G (((View.whole main_v85_1).slice (win0_3.rect t)).emb y) :=
  congrArg G (emb_1 t y)

/-- The region copies its first operand into its first result. -/
theorem copy_0 : (dats m 0 c).arrAt 2 cfg0.N = V m c main_v51 := by
  refine (dats m 0 c).arrAt_eq_of_covers 2 _ (by decide +kernel) fun t hf y => ?_
  blk_simp
  rw [after0_2]
  frame_out
  blk_simp [iblk, k0_pay1]
  pointwise
  exact read_0 t _ y

/-- The region copies its second operand into its second result. -/
theorem copy_1 : (dats m 0 c).arrAt 3 cfg0.N = V m c main_v83 := by
  refine (dats m 0 c).arrAt_eq_of_covers 3 _ (by decide +kernel) fun t hf y => ?_
  blk_simp
  rw [after0_3]
  frame_out
  blk_simp [iblk, k0_pay2]
  pointwise
  exact read_1 t _ y

/-! ## The four results -/

/-- Result 1 after the run. -/
theorem final_codesR : (dats m 0 c).arrAt 2 cfg0.N
    = codesR (m ((c : Thread nD τ).loc main_arg0)) (m ((c : Thread nD τ).loc main_arg1)) := by
  rw [copy_0, line_split]
  exact ext2 fun a b => line_codesR (start m c) a b

/-- Result 2 after the run. -/
theorem final_scalesR : V m c main_v52
    = scalesR (m ((c : Thread nD τ).loc main_arg0)) (m ((c : Thread nD τ).loc main_arg1)) := by
  rw [line_split]
  exact ext2 fun a b => line_scalesR (start m c) a b

/-- Result 3 after the run. -/
theorem final_codesC : (dats m 0 c).arrAt 3 cfg0.N
    = codesC (m ((c : Thread nD τ).loc main_arg0)) (m ((c : Thread nD τ).loc main_arg1)) := by
  rw [copy_1, line_split]
  exact ext2 fun a b => line_codesC (start m c) a b

/-- Result 4 after the run. -/
theorem final_scalesC : V m c main_v84
    = scalesC (m ((c : Thread nD τ).loc main_arg0)) (m ((c : Thread nD τ).loc main_arg1)) := by
  rw [line_split]
  exact ext3 fun a b => line_scalesC (start m c) a b

end
end Cert.Ref
-- ==== Proof.Algebraic.lean ====
module

public import proofs.«01_k».proof.Defs
public import proofs.«01_k».proof.Proof.Results

@[expose] public section

/-!
# Kernel and reference leave the same four results

Each of the two runs leaves the same four functions of its arguments, and the arguments are equal.
-/

namespace Cert.Algebraic

open Idealize.ShloMosaic Idealize.ShloMosaic.TcCoe Idealize.SL.Sem

/-- The kernel's run, in its four results. -/
theorem kernel_run (m : (ℓ : Loc KernelIdeal.nD KernelIdeal.τ KernelIdeal.sig) → Buf (Elt Ideal) ℓ)
    (g : Dev KernelIdeal.nD → PrngReg) :
    θ_run (KernelIdeal.defs (F := Ideal)) (onTc (τ := KernelIdeal.τ) (KernelIdeal.main (F := Ideal)))
      ⟨m, fun _ => 0, g⟩ (fun r => ∀ c : Dev KernelIdeal.nD,
        let x := m ((c.tc : Thread KernelIdeal.nD KernelIdeal.τ).loc KernelIdeal.main_arg0)
        let d := m ((c.tc : Thread KernelIdeal.nD KernelIdeal.τ).loc KernelIdeal.main_arg1)
        r.2.mem ((c.tc : Thread KernelIdeal.nD KernelIdeal.τ).loc KernelIdeal.main_v2_0) = Whole.codesR x d
        ∧ r.2.mem ((c.tc : Thread KernelIdeal.nD KernelIdeal.τ).loc KernelIdeal.main_v2_1) = Whole.scalesR x d
        ∧ r.2.mem ((c.tc : Thread KernelIdeal.nD KernelIdeal.τ).loc KernelIdeal.main_v2_2) = Whole.codesC x d
        ∧ r.2.mem ((c.tc : Thread KernelIdeal.nD KernelIdeal.τ).loc KernelIdeal.main_v2_3) = Whole.scalesC x d
        ∧ r.2.mem ((c.tc : Thread KernelIdeal.nD KernelIdeal.τ).loc KernelIdeal.main_arg0) = x
        ∧ r.2.mem ((c.tc : Thread KernelIdeal.nD KernelIdeal.τ).loc KernelIdeal.main_arg1) = d) := by
  refine (θ_run (KernelIdeal.defs (F := Ideal)) _ _).mono (fun r h c => ?_) (KernelIdeal.Value.run_blocks m g)
  obtain ⟨h0, h1, h2, h3, ha, hb⟩ := h c
  exact ⟨h0.trans (Whole.final_codesR m c), h1.trans (Whole.final_scalesR m c), h2.trans (Whole.final_codesC m c),
    h3.trans (Whole.final_scalesC m c), ha, hb⟩

/-- The reference's run, in its four results. -/
theorem reference_run (m : (ℓ : Loc ReferenceIdeal.nD ReferenceIdeal.τ ReferenceIdeal.sig) → Buf (Elt Ideal) ℓ)
    (g : Dev ReferenceIdeal.nD → PrngReg) :
    θ_run (ReferenceIdeal.defs (F := Ideal)) (onTc (τ := ReferenceIdeal.τ) (ReferenceIdeal.main (F := Ideal)))
      ⟨m, fun _ => 0, g⟩ (fun r => ∀ c : Dev ReferenceIdeal.nD,
        let x := m ((c.tc : Thread ReferenceIdeal.nD ReferenceIdeal.τ).loc ReferenceIdeal.main_arg0)
        let d := m ((c.tc : Thread ReferenceIdeal.nD ReferenceIdeal.τ).loc ReferenceIdeal.main_arg1)
        r.2.mem ((c.tc : Thread ReferenceIdeal.nD ReferenceIdeal.τ).loc ReferenceIdeal.main_v85_0) = Whole.codesR x d
        ∧ r.2.mem ((c.tc : Thread ReferenceIdeal.nD ReferenceIdeal.τ).loc ReferenceIdeal.main_v52) = Whole.scalesR x d
        ∧ r.2.mem ((c.tc : Thread ReferenceIdeal.nD ReferenceIdeal.τ).loc ReferenceIdeal.main_v85_1) = Whole.codesC x d
        ∧ r.2.mem ((c.tc : Thread ReferenceIdeal.nD ReferenceIdeal.τ).loc ReferenceIdeal.main_v84) = Whole.scalesC x d
        ∧ r.2.mem ((c.tc : Thread ReferenceIdeal.nD ReferenceIdeal.τ).loc ReferenceIdeal.main_arg0) = x
        ∧ r.2.mem ((c.tc : Thread ReferenceIdeal.nD ReferenceIdeal.τ).loc ReferenceIdeal.main_arg1) = d) := by
  refine (θ_run (ReferenceIdeal.defs (F := Ideal)) _ _).mono (fun r h c => ?_) (ReferenceIdeal.Gen.run_main m g)
  have h52 := (h c).2 ReferenceIdeal.main_v52 (Pipeline.mem_restRefs_of ReferenceIdeal.main_v52 (by decide) (by decide))
  have h84 := (h c).2 ReferenceIdeal.main_v84 (Pipeline.mem_restRefs_of ReferenceIdeal.main_v84 (by decide) (by decide))
  exact ⟨(ReferenceIdeal.Value.post2 m r h c).trans (Ref.final_codesR m c), h52.trans (Ref.final_scalesR m c),
    (ReferenceIdeal.Value.post3 m r h c).trans (Ref.final_codesC m c), h84.trans (Ref.final_scalesC m c),
    ReferenceIdeal.Value.kept_main_arg0 m r h c, ReferenceIdeal.Value.kept_main_arg1 m r h c⟩

/-- The value claim: on equal arguments the two runs leave equal results. -/
theorem equal : algebraic_KernelIdeal_ReferenceIdeal (hKernelIdeal := KernelIdeal.Gen.facts)
    (hReferenceIdeal := ReferenceIdeal.Gen.facts) := by
  intro m g m' g' _ hargs
  refine ⟨_, _, _, _, kernel_run m g, ?_⟩
  refine (θ_run (ReferenceIdeal.defs (F := Ideal)) _ _).mono (fun r h c => ?_) (reference_run m' g')
  obtain ⟨h0, h1, h2, h3, ha, hb⟩ := h c
  rw [(hargs c).1, (hargs c).2] at h0 h1 h2 h3
  exact ⟨h0, h1, h2, h3, ha, hb⟩

end Cert.Algebraic
-- ==== Proof.lean ====
module

public import proofs.«01_k».proof.Defs
public import proofs.«01_k».proof.Proof.Algebraic
public import proofs.«01_k».proof.Proof.Gen.KernelIdeal.Value
public import proofs.«01_k».proof.Proof.Gen.ReferenceIdeal.Value
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  trivial,
  Cert.Algebraic.equal⟩

end Cert.Proof

end
